-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = Layout.block ⟨3, ![4, 256, 512]⟩ ⟨3, ![16, 256, 512]⟩ 0 4 c (m' (((0 : Dev Cert.ReferenceIdeal.nD).tc : Thread Cert.ReferenceIdeal.nD Cert.ReferenceIdeal.τ).loc Cert.ReferenceIdeal.main_arg3))) →
    ∃ (v0 : Buf (Elt Ideal) (((0 : Dev Cert.ReferenceIdeal.nD).tc : Thread Cert.ReferenceIdeal.nD Cert.ReferenceIdeal.τ).loc Cert.ReferenceIdeal.main_v28)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![128, 512]⟩ ⟨2, ![512, 512]⟩ 0 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v28) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S512x256 : Shape := ⟨2, ![512, 256]⟩
abbrev S256x16 : Shape := ⟨2, ![256, 16]⟩
abbrev S512x1 : Shape := ⟨2, ![512, 1]⟩
abbrev S4x256x512 : Shape := ⟨3, ![4, 256, 512]⟩
abbrev S128x512 : Shape := ⟨2, ![128, 512]⟩
abbrev S512x1024 : Shape := ⟨2, ![512, 1024]⟩
abbrev S3x128x512 : Shape := ⟨3, ![3, 128, 512]⟩
abbrev S3 : Shape := ⟨1, ![3]⟩
abbrev S_ : Shape := ⟨0, ![]⟩
abbrev S512x16 : Shape := ⟨2, ![512, 16]⟩
abbrev S512x512 : Shape := ⟨2, ![512, 512]⟩
abbrev S512 : Shape := ⟨1, ![512]⟩
abbrev S1024x512 : Shape := ⟨2, ![1024, 512]⟩
abbrev S128x1024 : Shape := ⟨2, ![128, 1024]⟩
abbrev S1x128x512 : Shape := ⟨3, ![1, 128, 512]⟩
abbrev S1 : Shape := ⟨1, ![1]⟩

abbrev nBuf : Space → Nat
  | .hbm => 5
  | .vmem => 7
  | .smem => 0
  | _ => 0

abbrev bufTy : (tb : Table) → Fin (tcTables nBuf tb) → BufTy
  | .hbm, ⟨0, _⟩ => ⟨S512x256, .bf16⟩
  | .hbm, ⟨1, _⟩ => ⟨S256x16, .bf16⟩
  | .hbm, ⟨2, _⟩ => ⟨S512x1, .i32⟩
  | .hbm, ⟨3, _⟩ => ⟨S4x256x512, .bf16⟩
  | .hbm, ⟨4, _⟩ => ⟨S128x512, .f32⟩
  | .local _ .vmem, ⟨0, _⟩ => ⟨S512x256, .bf16⟩
  | .local _ .vmem, ⟨1, _⟩ => ⟨S512x1, .i32⟩
  | .local _ .vmem, ⟨2, _⟩ => ⟨S4x256x512, .bf16⟩
  | .local _ .vmem, ⟨3, _⟩ => ⟨S128x512, .f32⟩
  | .local _ .vmem, ⟨4, _⟩ => ⟨S512x1024, .bf16⟩
  | .local _ .vmem, ⟨5, _⟩ => ⟨S3x128x512, .bf16⟩
  | .local _ .vmem, ⟨6, _⟩ => ⟨S3x128x512, .bf16⟩
  | _, _ => ⟨S512x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 1 → Bool
  | ⟨0, _⟩ => false
  | _ => false

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  (ofTc nBuf bufTy 1 10 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc0_scratch1 : Ref sig .tc := ⟨.vmem, 5, rfl⟩
abbrev cc0_scratch2 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v4 : BitVec 32 := Scalar.addi v2 c1_i32_0
  let c4_i32_1 : BitVec 32 := 4#32
  let v5 : BitVec 32 := Scalar.remsi v4 c4_i32_1
  let c1_i32_3 : BitVec 32 := 1#32
  let v6 : BitVec 32 := Scalar.muli v5 c1_i32_3
  let v7 : BitVec 32 := Scalar.addi c0_i32 v6
  v7.toNat
def k0_dev2 (d0 : Dev nD) : Nat :=
  let c0_i32_7 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v8 : BitVec 32 := Scalar.addi v2 c2_i32
  let c4_i32_4 : BitVec 32 := 4#32
  let v9 : BitVec 32 := Scalar.remsi v8 c4_i32_4
  let c1_i32_6 : BitVec 32 := 1#32
  let v10 : BitVec 32 := Scalar.muli v9 c1_i32_6
  let v11 : BitVec 32 := Scalar.addi c0_i32_7 v10
  v11.toNat
def k0_dev3 (d0 : Dev nD) : Nat :=
  let c0_i32_11 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v12 : BitVec 32 := Scalar.addi v2 c3_i32
  let c4_i32_8 : BitVec 32 := 4#32
  let v13 : BitVec 32 := Scalar.remsi v12 c4_i32_8
  let c1_i32_10 : BitVec 32 := 1#32
  let v14 : BitVec 32 := Scalar.muli v13 c1_i32_10
  let v15 : BitVec 32 := Scalar.addi c0_i32_11 v14
  v15.toNat
def k0_off1 (d0 : Dev nD) (c2_i32_31 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v89 : BitVec 32 := Scalar.addi v2 c2_i32_31
  let c4_i32_32 : BitVec 32 := 4#32
  let v90 : BitVec 32 := Scalar.remsi v89 c4_i32_32
  let c128_i32 : BitVec 32 := 128#32
  let v91 : BitVec 32 := Scalar.muli v90 c128_i32
  let v92 : Index := Scalar.indexCast v91
  let c0_33 : Index := 0#32
  ![v92.toNat, 0]
def k0_dev4 (d0 : Dev nD) : Nat :=
  let c0_i32_42 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_31 : BitVec 32 := 2#32
  let v89 : BitVec 32 := Scalar.addi v2 c2_i32_31
  let c4_i32_32 : BitVec 32 := 4#32
  let v90 : BitVec 32 := Scalar.remsi v89 c4_i32_32
  let c1_i32_41 : BitVec 32 := 1#32
  let v99 : BitVec 32 := Scalar.muli v90 c1_i32_41
  let v100 : BitVec 32 := Scalar.addi c0_i32_42 v99
  v100.toNat
def k0_dev5 (d0 : Dev nD) : Nat :=
  let c0_i32_60 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_47 : BitVec 32 := 1#32
  let v109 : BitVec 32 := Scalar.addi v2 c1_i32_47
  let c4_i32_48 : BitVec 32 := 4#32
  let v110 : BitVec 32 := Scalar.remsi v109 c4_i32_48
  let c1_i32_59 : BitVec 32 := 1#32
  let v119 : BitVec 32 := Scalar.muli v110 c1_i32_59
  let v120 : BitVec 32 := Scalar.addi c0_i32_60 v119
  v120.toNat
def k0_dev6 (d0 : Dev nD) : Nat :=
  let c0_i32_77 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_65 : BitVec 32 := 3#32
  let v129 : BitVec 32 := Scalar.addi v2 c3_i32_65
  let c4_i32_66 : BitVec 32 := 4#32
  let v130 : BitVec 32 := Scalar.remsi v129 c4_i32_66
  let c1_i32_76 : BitVec 32 := 1#32
  let v139 : BitVec 32 := Scalar.muli v130 c1_i32_76
  let v140 : BitVec 32 := Scalar.addi c0_i32_77 v139
  v140.toNat
def k0_off2 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c128_i32_82 : BitVec 32 := 128#32
  let v149 : BitVec 32 := Scalar.muli v2 c128_i32_82
  let v150 : Index := Scalar.indexCast v149
  let c0_83 : Index := 0#32
  ![v150.toNat, 0]
abbrev stage0_0 : Fin 1 → Memref sig .tc .vmem S512x256 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x1 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4x256x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S128x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== ReferenceIdeal.lean ====
abbrev S512x256 : Shape := ⟨2, ![512, 256]⟩
abbrev S256x16 : Shape := ⟨2, ![256, 16]⟩
abbrev S512x1 : Shape := ⟨2, ![512, 1]⟩
abbrev S16x256x512 : Shape := ⟨3, ![16, 256, 512]⟩
abbrev S512 : Shape := ⟨1, ![512]⟩
abbrev S1x512 : Shape := ⟨2, ![1, 512]⟩
abbrev S512x512 : Shape := ⟨2, ![512, 512]⟩
abbrev S_ : Shape := ⟨0, ![]⟩
abbrev S512x256x512 : Shape := ⟨3, ![512, 256, 512]⟩

abbrev nBuf : Space → Nat
  | .hbm => 42
  | .vmem => 0
  | .smem => 0
  | _ => 0

abbrev bufTy : (tb : Table) → Fin (tcTables nBuf tb) → BufTy
  | .hbm, ⟨0, _⟩ => ⟨S512x256, .bf16⟩
  | .hbm, ⟨1, _⟩ => ⟨S256x16, .bf16⟩
  | .hbm, ⟨2, _⟩ => ⟨S512x1, .i32⟩
  | .hbm, ⟨3, _⟩ => ⟨S16x256x512, .bf16⟩
  | .hbm, ⟨4, _⟩ => ⟨S512, .i32⟩
  | .hbm, ⟨5, _⟩ => ⟨S512, .i32⟩
  | .hbm, ⟨6, _⟩ => ⟨S512x1, .i32⟩
  | .hbm, ⟨7, _⟩ => ⟨S1x512, .i32⟩
  | .hbm, ⟨8, _⟩ => ⟨S512x512, .i32⟩
  | .hbm, ⟨9, _⟩ => ⟨S512x512, .i32⟩
  | .hbm, ⟨10, _⟩ => ⟨S512x512, .i1⟩
  | .hbm, ⟨11, _⟩ => ⟨S1x512, .i32⟩
  | .hbm, ⟨12, _⟩ => ⟨S512x1, .i32⟩
  | .hbm, ⟨13, _⟩ => ⟨S512x512, .i32⟩
  | .hbm, ⟨14, _⟩ => ⟨S512x512, .i32⟩
  | .hbm, ⟨15, _⟩ => ⟨S512x512, .i1⟩
  | .hbm, ⟨16, _⟩ => ⟨S512x512, .i1⟩
  | .hbm, ⟨17, _⟩ => ⟨S512x512, .i32⟩
  | .hbm, ⟨18, _⟩ => ⟨S_, .i32⟩
  | .hbm, ⟨19, _⟩ => ⟨S512, .i32⟩
  | .hbm, ⟨20, _⟩ => ⟨S_, .i32⟩
  | .hbm, ⟨21, _⟩ => ⟨S512, .i32⟩
  | .hbm, ⟨22, _⟩ => ⟨S512, .i1⟩
  | .hbm, ⟨23, _⟩ => ⟨S_, .i32⟩
  | .hbm, ⟨24, _⟩ => ⟨S512, .i32⟩
  | .hbm, ⟨25, _⟩ => ⟨S512, .i1⟩
  | .hbm, ⟨26, _⟩ => ⟨S512, .i1⟩
  | .hbm, ⟨27, _⟩ => ⟨S_, .i32⟩
  | .hbm, ⟨28, _⟩ => ⟨S512, .i32⟩
  | .hbm, ⟨29, _⟩ => ⟨S512, .i1⟩
  | .hbm, ⟨30, _⟩ => ⟨S512, .i1⟩
  | .hbm, ⟨31, _⟩ => ⟨S512x1, .i32⟩
  | .hbm, ⟨32, _⟩ => ⟨S512x256x512, .bf16⟩
  | .hbm, ⟨33, _⟩ => ⟨S512x256x512, .f32⟩
  | .hbm, ⟨34, _⟩ => ⟨S512x256, .f32⟩
  | .hbm, ⟨35, _⟩ => ⟨S512x512, .f32⟩
  | .hbm, ⟨36, _⟩ => ⟨S512x1, .i1⟩
  | .hbm, ⟨37, _⟩ => ⟨S_, .f32⟩
  | .hbm, ⟨38, _⟩ => ⟨S_, .f32⟩
  | .hbm, ⟨39, _⟩ => ⟨S512x512, .i1⟩
  | .hbm, ⟨40, _⟩ => ⟨S512x512, .f32⟩
  | .hbm, ⟨41, _⟩ => ⟨S512x512, .f32⟩
  | _, _ => ⟨S512x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_c : Ref sig .tc := ⟨.hbm, 18, rfl⟩
abbrev main_v14 : Ref sig .tc := ⟨.hbm, 19, rfl⟩
abbrev main_c_0 : Ref sig .tc := ⟨.hbm, 20, rfl⟩
abbrev main_v15 : Ref sig .tc := ⟨.hbm, 21, rfl⟩
abbrev main_v16 : Ref sig .tc := ⟨.hbm, 22, rfl⟩
abbrev main_c_1 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_c_2 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_call0_v0 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_cst : Ref sig .tc := ⟨.hbm, 37, rfl⟩
abbrev main_call1_v0 : Ref sig .tc := ⟨.hbm, 38, rfl⟩
abbrev main_call1_v1 : Ref sig .tc := ⟨.hbm, 39, rfl⟩
abbrev main_call1_v2 : Ref sig .tc := ⟨.hbm, 40, rfl⟩
abbrev main_v28 : Ref sig .tc := ⟨.hbm, 41, rfl⟩

abbrev nD : Nat := 1
abbrev τ : Topo := Topo.v7x

variable {F : FTy → Type} [FloatOps F]
-- ==== Proof.Slots.lean ====
/-
The three slots of a message buffer.

The send buffer and the receive buffer are both `3 × 128 × 512`: three slots, one per peer. This module states
what a slot is, that the three slots are disjoint and make up the buffer, what it is to hold a slot with given
contents, and that copying one slot onto another carries the contents over. Nothing here depends on the protocol.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.ViewIndex
public import Idealize.ShloMosaic.Lib.Ring
public import Idealize.ShloMosaic.Lib.Tactic

@[expose] public section

noncomputable section

namespace Cert.MoE

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The resource algebra: the pipeline library's rounds and this protocol's, whose duties are named by slots. -/
abbrev UB : Type := URounds (GSem nD τ sig) (Fin 3)
abbrev UU : Type := UR sig nD τ × UB

local notation "𝕄" => MT nD τ sig Unit (Elt F) ℕ UU ℕ

/-! ## Geometry -/

theorem slot_inb (k : Fin 3) : ∀ a, (![k.val, 0, 0] : Fin 3 → ℕ) a + S1x128x512.size a ≤ S3x128x512.size a := by
  revert k; decide

/-- The rectangle of slot `k` in a message buffer. -/
abbrev slotRect (k : Fin 3) : Rect S3x128x512 := Rect.unit (s := S3x128x512) ![k.val, 0, 0] S1x128x512.size (slot_inb k)

/-- The send buffer and the receive buffer. -/
abbrev sendB : Memref sig .tc .vmem S3x128x512 .bf16 := Memref.whole cc0_scratch1
abbrev recvB : Memref sig .tc .vmem S3x128x512 .bf16 := Memref.whole cc0_scratch2

/-- Slot `k` of a message buffer, of shape `1 × 128 × 512`; -/
abbrev slot (b : Memref sig .tc .vmem S3x128x512 .bf16) (k : Fin 3) : Memref sig .tc .vmem S1x128x512 .bf16 :=
  b.slice (slotRect k) (fun _ => rfl)
/-- the same elements as a `128 × 512` array, which is what a copy moves. -/
abbrev flat (b : Memref sig .tc .vmem S3x128x512 .bf16) (k : Fin 3) : Memref sig .tc .vmem S128x512 .bf16 :=
  (slot b k).squeeze S128x512 squeezes_S1x128x512_S128x512

theorem flat_set (b : Memref sig .tc .vmem S3x128x512 .bf16) (k : Fin 3) : (flat b k).view.set = (slot b k).view.set :=
  Memref.set_view_squeeze _ _

/-- Different slots share no element. -/
theorem slot_disjoint (b : Memref sig .tc .vmem S3x128x512 .bf16) (k k' : Fin 3) (h : k ≠ k') :
    Disjoint (slot b k).view.set (slot b k').view.set := by
  refine View.disjoint_slice (Rect.unit_disjoint (0 : Fin 3) ?_)
  revert k k'; decide

/-- Every element of a whole buffer is in one of its slots. -/
theorem slot_cover (k : Fin 3) (i : S3x128x512.Idx) : i ∈ (slotRect k).set ↔ (i 0).val = k.val := by
  rw [Rect.mem_set_unit]
  constructor
  · intro h
    have h0 := h 0
    have e1 : (![k.val, 0, 0] : Fin 3 → ℕ) 0 = k.val := rfl
    have e2 : S1x128x512.size 0 = 1 := rfl
    rw [e1, e2] at h0
    omega
  · intro h a
    fin_cases a
    · have e1 : (![k.val, 0, 0] : Fin 3 → ℕ) 0 = k.val := rfl
      have e2 : S1x128x512.size 0 = 1 := rfl
      refine ⟨?_, ?_⟩
      · exact h.symm.le
      · show (i 0).val < k.val + 1
        omega
    · exact ⟨Nat.zero_le _, by simpa using (i 1).isLt⟩
    · exact ⟨Nat.zero_le _, by simpa using (i 2).isLt⟩

/-- The elements of slot `k` among those of the buffer. -/
abbrev slotI (b : Memref sig .tc .vmem S3x128x512 .bf16) (k : Fin 3) : Finset b.view.ty.Idx := (slot b k).view.set
/-- The slots of a buffer make up all of it. -/
abbrev Covers (b : Memref sig .tc .vmem S3x128x512 .bf16) : Prop := Finset.univ.biUnion (slotI b) = Finset.univ

theorem sendB_cover : Covers sendB := by
  refine Finset.eq_univ_iff_forall.2 fun (i : S3x128x512.Idx) => Finset.mem_biUnion.2 ⟨(i 0 : Fin 3), Finset.mem_univ _, ?_⟩
  show i ∈ ((View.whole cc0_scratch1).slice (slotRect (i 0))).set
  rw [View.set_slice_whole]
  exact (slot_cover (i 0) i).2 rfl
theorem recvB_cover : Covers recvB := by
  refine Finset.eq_univ_iff_forall.2 fun (i : S3x128x512.Idx) => Finset.mem_biUnion.2 ⟨(i 0 : Fin 3), Finset.mem_univ _, ?_⟩
  show i ∈ ((View.whole cc0_scratch2).slice (slotRect (i 0))).set
  rw [View.set_slice_whole]
  exact (slot_cover (i 0) i).2 rfl

/-! ## Holding a slot -/

/-- Device `c` holds slot `k` of its buffer `b`, which reads `X`. -/
def slotPts (b : Memref sig .tc .vmem S3x128x512 .bf16) (k : Fin 3) (c : Dev nD) (X : S1x128x512.Idx → Elt F .bf16) : sProp 𝕄 :=
  iprop(∃ f : Buf (Elt F) ((slot b k).view.loc (c : Thread nD τ)), ⌜(slot b k).view.read (Elt F) f = X⌝
    ∗ ((slot b k).view.loc (c : Thread nD τ) ↦[(slot b k).view.set]{fullShare} f))

omit [FloatOps F] in
instance slotPts_storable (b : Memref sig .tc .vmem S3x128x512 .bf16) (k : Fin 3) (c : Dev nD) (X) :
    BI.Storable (upEmb : UEmb _ 𝕄) (slotPts (F := F) b k c X) := by unfold slotPts; infer_instance

/-- The contents a copy of slot `k` of `a` leaves in slot `k` of `b`: what the source slot read. -/
theorem slot_copy {Val : EltTy → Type} (a b : Memref sig .tc .vmem S3x128x512 .bf16) (k : Fin 3)
    (fs : (slot a k).view.ty.Contents Val) (fd : (slot b k).view.ty.Contents Val) :
    (slot b k).view.read Val ((flat b k).view.write Val fd ((flat a k).view.read Val fs) Finset.univ) = (slot a k).view.read Val fs := by
  funext x
  obtain ⟨y, rfl⟩ := (Shape.reshapeEquiv squeezes_S1x128x512_S128x512.numel_eq).surjective x
  exact View.read_write_reshape (slot b k).view squeezes_S1x128x512_S128x512.numel_eq fd _ y

omit [FloatOps F] in
/-- A whole message buffer at any contents is its three slots at any contents; -/
theorem slots_split (b : Memref sig .tc .vmem S3x128x512 .bf16) (hb : Covers b) (c : Dev nD) :
    (iprop(∃ f : Buf (Elt F) (b.view.loc (c : Thread nD τ)), (b.view.loc (c : Thread nD τ) ↦{fullShare} f)) : sProp 𝕄)
      ⊢ iprop((∃ X, slotPts (F := F) b 0 c X) ∗ (∃ X, slotPts (F := F) b 1 c X) ∗ ∃ X, slotPts (F := F) b 2 c X) := by
  refine (Ring.slots3_split (ℓ := b.view.loc (c : Thread nD τ)) (slotI b) (slot_disjoint b) hb _ _ _
    (fun _ => rfl) (fun _ => rfl) (fun _ => rfl)).trans ?_
  iintro ⟨⟨%f0, H0⟩, ⟨%f1, H1⟩, ⟨%f2, H2⟩⟩
  unfold slotPts
  isplitl [H0]
  · iexists _; iexists f0; isplitr; · ipureintro; rfl
    iexact H0
  isplitl [H1]
  · iexists _; iexists f1; isplitr; · ipureintro; rfl
    iexact H1
  · iexists _; iexists f2; isplitr; · ipureintro; rfl
    iexact H2

omit [FloatOps F] in
/-- and the three slots at any contents are the whole buffer at some contents. -/
theorem slots_join (b : Memref sig .tc .vmem S3x128x512 .bf16) (hb : Covers b) (c : Dev nD) :
    (iprop((∃ X, slotPts (F := F) b 0 c X) ∗ (∃ X, slotPts (F := F) b 1 c X) ∗ ∃ X, slotPts (F := F) b 2 c X) : sProp 𝕄)
      ⊢ iprop(∃ f : Buf (Elt F) (b.view.loc (c : Thread nD τ)), (b.view.loc (c : Thread nD τ) ↦{fullShare} f)) := by
  refine BI.BIBase.Entails.trans ?_ (Ring.slots3_join (ℓ := b.view.loc (c : Thread nD τ)) (slotI b) (slot_disjoint b) hb _ _ _
    (fun _ => rfl) (fun _ => rfl) (fun _ => rfl))
  unfold slotPts
  iintro ⟨⟨%X0, %f0, -, H0⟩, ⟨%X1, %f1, -, H1⟩, ⟨%X2, %f2, -, H2⟩⟩
  isplitl [H0]; · iexists f0; iexact H0
  isplitl [H1]; · iexists f1; iexact H1
  iexists f2; iexact H2

end Cert.MoE
-- ==== Proof.Protocol.lean ====
/-
The protocol of the mixture-of-experts kernel: which device signals or copies onto which semaphore, how much, and
what each arrival hands over.

Slot `k` carries the traffic from device `c` to device `c + (k + 1)` around the ring of four.

* The barrier semaphore of device `c` is signalled once by each peer. The signal of device `c + (k + 1)` hands `c`
  slot `k` of that peer's receive buffer, into which `c` will copy.
* The copy of slot `k` credits its sender's semaphore `k` when the send slot has been read, handing it back, and the
  receiver's semaphore `k` when it has landed, handing over the receive slot, which then reads the sender's message.

Every semaphore has one round.
-/
module

public import proofs.«01_k».proof.Proof.Slots

@[expose] public section

noncomputable section

namespace Cert.MoE

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-- The two embeddings of round state: the pipeline's and this protocol's. -/
abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch: arbitrary contents, every semaphore counter zero, arbitrary generator registers. -/
def s₀ : MemSt nD τ sig (Elt F) := ⟨m, fun _ => 0, ρ⟩

/-! ## The ring -/

set_option backward.proofsInPublic true in
/-- The device slot `k` of `c` is sent to, -/
def dest (k : Fin 3) (c : Dev nD) : Dev nD := ⟨(c.val + (k.val + 1)) % 4, Nat.mod_lt _ (by decide)⟩
set_option backward.proofsInPublic true in
/-- and the device slot `k` of `c` is received from. -/
def orig (k : Fin 3) (c : Dev nD) : Dev nD := ⟨(c.val + (3 - k.val)) % 4, Nat.mod_lt _ (by decide)⟩

theorem orig_dest (k : Fin 3) (c : Dev nD) : orig k (dest k c) = c := by revert k c; decide
theorem dest_orig (k : Fin 3) (c : Dev nD) : dest k (orig k c) = c := by revert k c; decide

/-- The rotation of the devices by slot `k`. -/
def rot (k : Fin 3) : Dev nD ≃ Dev nD := ⟨dest k, orig k, orig_dest k, dest_orig k⟩

/-! ## Semaphores -/

theorem sem_inb (k : Fin 3) : ∀ a, (![k.val] : Fin 1 → ℕ) a + S1.size a ≤ S3.size a := by revert k; decide

/-- The barrier semaphore, and the send and the receive semaphore of slot `k`. -/
abbrev barS : Sem sig := (SemArray.scalar (sig.barrier 0 rfl) : Sems sig S_).sem
abbrev sendS (k : Fin 3) : DmaSem sig := ((cc0_scratch3.slice (Rect.unit (s := S3) ![k.val] S1.size (sem_inb k))).squeeze S_ squeezes_S1_S_).sem
abbrev recvS (k : Fin 3) : DmaSem sig := ((cc0_scratch4.slice (Rect.unit (s := S3) ![k.val] S1.size (sem_inb k))).squeeze S_ squeezes_S1_S_).sem

abbrev barCell (c : Dev nD) : GSem nD τ sig := ((c : Thread nD τ), .reg barS)
abbrev sendCell (k : Fin 3) (c : Dev nD) : GSem nD τ sig := ((c : Thread nD τ), .dma (sendS k))
abbrev recvCell (k : Fin 3) (c : Dev nD) : GSem nD τ sig := ((c : Thread nD τ), .dma (recvS k))

/-- What a semaphore is for: the barrier, slot `k`'s sends, slot `k`'s receives, or something else. -/
inductive Role where
  | bar
  | send (k : Fin 3)
  | recv (k : Fin 3)
  | other

/-- The role of each semaphore. -/
def roleOf : SemLoc sig → Role
  | .reg s => if s = barS then .bar else .other
  | .dma q =>
    if q = sendS 0 then .send 0 else if q = sendS 1 then .send 1 else if q = sendS 2 then .send 2
    else if q = recvS 0 then .recv 0 else if q = recvS 1 then .recv 1 else if q = recvS 2 then .recv 2 else .other

theorem role_bar : roleOf (.reg barS) = .bar := rfl
theorem role_send (k : Fin 3) : roleOf (.dma (sendS k)) = .send k := by
  fin_cases k <;> rfl
theorem role_recv (k : Fin 3) : roleOf (.dma (recvS k)) = .recv k := by
  fin_cases k <;> rfl

/-- What one copy of a slot credits. -/
abbrev N : ℕ := (flat recvB 0).view.dmaCredit
theorem N_pos : 0 < N := View.dmaCredit_pos _ (by decide)
theorem credit_recv (k : Fin 3) : (flat recvB k).view.dmaCredit = N := by fin_cases k <;> rfl
theorem credit_send (k : Fin 3) : (flat sendB k).view.dmaCredit = N := by fin_cases k <;> rfl

/-! ## Contents -/

/-- The tokens, the chosen experts and the expert weights device `c` works on. -/
def xs (c : Dev nD) : (cc0_stg0_0 : Ref sig .tc).ty.Contents (Elt F) :=
  (win0_0.blk (0 : Fin 1)).view.read (Elt F) ((s₀ m ρ).mem ((c : Thread nD τ).loc main_arg0))
def ids (c : Dev nD) : (cc0_stg1_0 : Ref sig .tc).ty.Contents (Elt F) :=
  (win0_1.blk (0 : Fin 1)).view.read (Elt F) ((s₀ m ρ).mem ((c : Thread nD τ).loc main_arg2))
def ws (c : Dev nD) : (cc0_stg2_0 : Ref sig .tc).ty.Contents (Elt F) :=
  (win0_2.blk (0 : Fin 1)).view.read (Elt F) ((s₀ m ρ).mem ((c : Thread nD τ).loc main_arg3))

/-- The word device `c` computes its first expert from. -/
abbrev devWord (c : Dev nD) : BitVec 32 := Scalar.remsi (Scalar.divsi (Dev.word c) 1#32) 4#32

/-- The masked tokens, one block of columns per local expert, side by side. -/
def cat (w : BitVec 32) (i : Vec F S512x1 .i32) (x : Vec F S512x256 .bf16) : FVec F S512x1024 .bf16 :=
  k0_pay11 (k0_pay7 w (k0_pay2 (F := F) i) (k0_pay3 i) (k0_pay4 i) x) (k0_pay8 w (k0_pay2 (F := F) i) (k0_pay3 i) (k0_pay4 i) x)
    (k0_pay9 w (k0_pay2 (F := F) i) (k0_pay3 i) (k0_pay4 i) x) (k0_pay10 w (k0_pay2 (F := F) i) (k0_pay3 i) (k0_pay4 i) x)

def xcat (c : Dev nD) : (cc0_scratch0 : Ref sig .tc).ty.Contents (Elt F) := cat (devWord c) (ids m ρ c) (xs m ρ c)

/-- The rows of `xcat` that device `c` multiplies for slot `k`, and those it multiplies for itself. -/
def sentRows (k : Fin 3) (c : Dev nD) : Vec F S128x1024 .bf16 :=
  (Memref.whole cc0_scratch0).view.readAt (Elt F)
    (Rect.unit (s := S512x1024) (k0_off1 c (BitVec.ofNat 32 (1 + k.val))) S128x1024.size (k0_off1_inb c k)).toLoadRect (xcat m ρ c)
def ownRows (c : Dev nD) : Vec F S128x1024 .bf16 :=
  (Memref.whole cc0_scratch0).view.readAt (Elt F)
    (Rect.unit (s := S512x1024) (k0_off2 c) S128x1024.size (k0_off2_inb c)).toLoadRect (xcat m ρ c)

/-- The message device `c` puts into slot `k`, and its own share of its result. -/
def msg (k : Fin 3) (c : Dev nD) : Vec F S1x128x512 .bf16 := k0_pay14 (k0_pay12 (ws m ρ c)) (sentRows m ρ k c)
def own (c : Dev nD) : FVec F S128x512 .f32 := k0_pay16 (k0_pay12 (ws m ρ c)) (ownRows m ρ c)

/-- The result on device `c`: its own share and the three messages received. -/
def out (c : Dev nD) : (cc0_stg3_0 : Ref sig .tc).ty.Contents (Elt F) :=
  k0_pay1 (own m ρ c) (msg m ρ 0 (orig 0 c)) (msg m ρ 1 (orig 1 c)) (msg m ρ 2 (orig 2 c))

/-! ## The schedule -/

/-- What duty `k` of `c`'s barrier hands over: the slot `c` copies its message `k` into. -/
def barPay (c : Dev nD) (k : Fin 3) : sProp 𝕄 := iprop(∃ X, slotPts (F := F) recvB k (dest k c) X)
/-- What the read of send slot `k` hands back, and what the landing of slot `k` hands over. -/
def sendPay (k : Fin 3) (c : Dev nD) : sProp 𝕄 := slotPts sendB k c (msg m ρ k c)
def recvPay (k : Fin 3) (c : Dev nD) : sProp 𝕄 := slotPts recvB k c (msg m ρ k (orig k c))

omit [FloatOps F] in
instance barPay_storable (c : Dev nD) (k : Fin 3) : BI.Storable (upEmb : UEmb _ 𝕄) (barPay (F := F) c k) := by unfold barPay; infer_instance
instance sendPay_storable (k : Fin 3) (c : Dev nD) : BI.Storable (upEmb : UEmb _ 𝕄) (sendPay (F := F) m ρ k c) := by
  unfold sendPay; infer_instance
instance recvPay_storable (k : Fin 3) (c : Dev nD) : BI.Storable (upEmb : UEmb _ 𝕄) (recvPay (F := F) m ρ k c) := by
  unfold recvPay; infer_instance

/-- The duties of a semaphore's one round, by its role: -/
def dutiesOf : Role → Finset (Fin 3)
  | .bar => Finset.univ
  | .send _ => {0}
  | .recv _ => {0}
  | .other => ∅
/-- what each is worth, -/
def amountOf : Role → ℕ
  | .bar => 1
  | _ => N
/-- and what it hands to the device waiting. -/
def payOf (c : Dev nD) (d : Fin 3) : Role → sProp 𝕄
  | .bar => barPay c d
  | .send k => sendPay m ρ k c
  | .recv k => recvPay m ρ k c
  | .other => iprop(emp)

instance payOf_storable (c : Dev nD) (d : Fin 3) (r : Role) : BI.Storable (upEmb : UEmb _ 𝕄) (payOf (F := F) m ρ c d r) := by
  cases r <;> unfold payOf <;> infer_instance

/-- One round, round 0, on every TensorCore. -/
def Rd : Rounds.Schedule (GSem nD τ sig) (Fin 3) 𝕄 where
  duties g r := if r = 0 ∧ g.1.2 = .tc then dutiesOf (roleOf g.2) else ∅
  unitless _ := False
  amount g _ _ := amountOf (roleOf g.2)
  payload g _ d := payOf m ρ g.1.1 d (roleOf g.2)
  amount_pos g _ _ _ := by
    generalize roleOf g.2 = r
    cases r
    · exact Nat.one_pos
    all_goals exact N_pos

instance Rd_storable (g : GSem nD τ sig) (r : ℕ) (d : Fin 3) :
    BI.Storable (upEmb : UEmb _ 𝕄) ((Rd (F := F) m ρ).payload g r d) := payOf_storable m ρ _ _ _

section Tables
variable (k : Fin 3) (c : Dev nD) (d : Fin 3)

theorem duties_bar : (Rd (F := F) m ρ).duties (barCell c) 0 = Finset.univ := by
  dsimp only [Rd]; rw [if_pos ⟨rfl, rfl⟩, role_bar]; rfl
theorem duties_send : (Rd (F := F) m ρ).duties (sendCell k c) 0 = {0} := by
  dsimp only [Rd]; rw [if_pos ⟨rfl, rfl⟩, role_send]; rfl
theorem duties_recv : (Rd (F := F) m ρ).duties (recvCell k c) 0 = {0} := by
  dsimp only [Rd]; rw [if_pos ⟨rfl, rfl⟩, role_recv]; rfl
theorem duties_later (g : GSem nD τ sig) : ∀ r, 1 ≤ r → (Rd (F := F) m ρ).duties g r = ∅ :=
  fun r hr => by dsimp only [Rd]; exact if_neg fun h => by omega

theorem amount_bar : (Rd (F := F) m ρ).amount (barCell c) 0 d = 1 := congrArg amountOf role_bar
theorem amount_send : (Rd (F := F) m ρ).amount (sendCell k c) 0 d = N := congrArg amountOf (role_send k)
theorem amount_recv : (Rd (F := F) m ρ).amount (recvCell k c) 0 d = N := congrArg amountOf (role_recv k)

theorem payload_bar : (Rd (F := F) m ρ).payload (barCell c) 0 d = barPay c d := congrArg (payOf m ρ c d) role_bar
theorem payload_send : (Rd (F := F) m ρ).payload (sendCell k c) 0 d = sendPay m ρ k c := congrArg (payOf m ρ c d) (role_send k)
theorem payload_recv : (Rd (F := F) m ρ).payload (recvCell k c) 0 d = recvPay m ρ k c := congrArg (payOf m ρ c d) (role_recv k)

theorem expect_bar : (Rd (F := F) m ρ).expect (barCell c) 0 = 3 := by
  unfold Schedule.expect Schedule.amountOf
  rw [duties_bar, Finset.sum_congr rfl fun d _ => amount_bar m ρ c d]
  rfl
theorem expect_send : (Rd (F := F) m ρ).expect (sendCell k c) 0 = N := by
  unfold Schedule.expect Schedule.amountOf; rw [duties_send, Finset.sum_singleton, amount_send]
theorem expect_recv : (Rd (F := F) m ρ).expect (recvCell k c) 0 = N := by
  unfold Schedule.expect Schedule.amountOf; rw [duties_recv, Finset.sum_singleton, amount_recv]

/-- A whole round of each semaphore hands over: the barrier its three slots, the others their one slot. -/
theorem rest_bar : bigSep ((Rd (F := F) m ρ).duties (barCell c) 0 \ ∅) (fun d => (Rd (F := F) m ρ).payload (barCell c) 0 d)
    = iprop(barPay c 0 ∗ barPay c 1 ∗ barPay c 2) := by
  rw [Finset.sdiff_empty, duties_bar, Ring.bigSep_fin3, payload_bar, payload_bar, payload_bar]
theorem rest_send : bigSep ((Rd (F := F) m ρ).duties (sendCell k c) 0 \ ∅) (fun d => (Rd (F := F) m ρ).payload (sendCell k c) 0 d)
    = sendPay m ρ k c := by
  rw [Finset.sdiff_empty, duties_send, bigSep_singleton, payload_send]
theorem rest_recv : bigSep ((Rd (F := F) m ρ).duties (recvCell k c) 0 \ ∅) (fun d => (Rd (F := F) m ρ).payload (recvCell k c) 0 d)
    = recvPay m ρ k c := by
  rw [Finset.sdiff_empty, duties_recv, bigSep_singleton, payload_recv]

end Tables

/-! ## What is owed at launch, and the levels -/

/-- Device `c` owes slot `k`'s receiver a landing, and slot `k`'s sender one signal. -/
abbrev owedRecv (k : Fin 3) (c : Dev nD) : CellTallies nD τ sig Unit := tallyAt (recvCell k (dest k c)) () N
abbrev owedBar (k : Fin 3) (c : Dev nD) : CellTallies nD τ sig Unit := tallyAt (barCell (orig k c)) () 1

/-- The landings owed, in the reverse of the order they are sent in; -/
abbrev O₁ (c : Dev nD) : CellTallies nD τ sig Unit := owedRecv 2 c + owedRecv 0 c + owedRecv 1 c
/-- with the signals, in the reverse of the order they are made in. -/
def O₀ (c : Dev nD) : CellTallies nD τ sig Unit := O₁ c + owedBar 0 c + owedBar 1 c + owedBar 2 c

def L (g : GSem nD τ sig) : Finset Unit := if g.1.2 = .tc then {()} else ∅
theorem L_of_ne (g : GSem nD τ sig) (h : g.1.2 ≠ .tc) : L g = ∅ := if_neg h
theorem L_tc (c : Dev nD) (sm : SemLoc sig) : L ((c : Thread nD τ), sm) = {()} := if_pos rfl

/-- Barriers wait below landings, and everything else below both. -/
def levelOf : Role → ℕ
  | .bar => 1
  | .recv _ => 2
  | _ => 0
def lv (g : GSem nD τ sig) (_ : Unit) : ℕ := levelOf (roleOf g.2)

theorem lv_bar (c : Dev nD) : lv (barCell c) () = 1 := congrArg levelOf role_bar
theorem lv_recv (k : Fin 3) (c : Dev nD) : lv (recvCell k c) () = 2 := congrArg levelOf (role_recv k)

/-- A positive count at a semaphore of one summand or of a sum. -/
theorem tally_pos {g g' : GSem nD τ sig} {u : Unit} {n : ℕ} (h : 0 < (tallyAt g () n : CellTallies nD τ sig Unit) g' u) : g' = g := by
  rw [tallyAt_apply] at h
  by_contra hn
  rw [if_neg fun h' => hn h'.1] at h
  exact Nat.lt_irrefl 0 h
theorem sum_pos {A B : CellTallies nD τ sig Unit} {g : GSem nD τ sig} {u : Unit} (h : 0 < (A + B) g u) : 0 < A g u ∨ 0 < B g u := by
  rw [Pi.add_apply, Finsupp.add_apply] at h
  omega

/-- Every landing owed is onto some device's receive semaphore, -/
theorem O₁_pos {c : Dev nD} {g : GSem nD τ sig} {u : Unit} (h : 0 < O₁ c g u) : ∃ k d, g = recvCell k d := by
  rcases sum_pos h with h | h
  · rcases sum_pos h with h | h
    · exact ⟨_, _, tally_pos h⟩
    · exact ⟨_, _, tally_pos h⟩
  · exact ⟨_, _, tally_pos h⟩
/-- and everything owed is onto a receive semaphore or a barrier. -/
theorem O₀_pos {c : Dev nD} {g : GSem nD τ sig} {u : Unit} (h : 0 < O₀ c g u) : (∃ k d, g = recvCell k d) ∨ ∃ d, g = barCell d := by
  rcases sum_pos h with h | h
  · rcases sum_pos h with h | h
    · rcases sum_pos h with h | h
      · exact .inl (O₁_pos h)
      · exact .inr ⟨_, tally_pos h⟩
    · exact .inr ⟨_, tally_pos h⟩
  · exact .inr ⟨_, tally_pos h⟩

omit [FloatOps F] in
/-- A device may wait for a staging copy whatever it owes at launch, and when it owes nothing. -/
theorem mayWait_stage (c : Dev nD) (q : DmaSem sig) (hq : roleOf (.dma q) = .other) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases O₀_pos hg with ⟨k, d, rfl⟩ | ⟨d, rfl⟩ <;> exact Finset.mem_singleton_self _)
      (fun p hp => by rw [Finset.mem_singleton.mp hp]; show levelOf (roleOf (.dma q)) ≤ 0; rw [hq]; exact le_rfl)
      (fun g u hg => by
        rcases O₀_pos hg with ⟨k, d, rfl⟩ | ⟨d, rfl⟩
        · rw [lv_recv]; decide
        · rw [lv_bar]; decide)
  · rw [MayWait_zero]; iintro -; iempintro

omit [FloatOps F] in
/-- At its barrier a device owes landings only, which are above it. -/
theorem mayWait_bar (c : Dev nD) : (levAts L lv : sProp 𝕄) ⊢ MayWait (c : Thread nD τ) (.reg barS) () (O₁ c) :=
  MayOwe.of_cut (L := L) (lev := lv) 1 (fun p hp => by rw [Finset.mem_singleton.mp hp, L_tc]; exact Finset.mem_singleton_self _)
    (fun g u hg => by obtain ⟨k, d, rfl⟩ := O₁_pos hg; exact Finset.mem_singleton_self _)
    (fun p hp => by rw [Finset.mem_singleton.mp hp, lv_bar])
    (fun g u hg => by obtain ⟨k, d, rfl⟩ := O₁_pos hg; rw [lv_recv]; decide)

end Cert.MoE
-- ==== Proof.Steps.lean ====
/-
The kernel's steps, one lemma each, for any slot and any device: signalling a peer, waiting at the barrier, copying a
slot, waiting for a slot to be read or to land, loading and storing a slot.
-/
module

public import proofs.«01_k».proof.Proof.Protocol

@[expose] public section

noncomputable section

namespace Cert.MoE

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

abbrev 𝒱₀ : Variants := Variants.none

/-! ## The semaphores in a row -/

/-- The kernel's own semaphores: the sends', then the receives'; -/
abbrev osem : Fin 6 → SemLoc sig := fun
  | 0 => .dma (sendS 0) | 1 => .dma (sendS 1) | 2 => .dma (sendS 2)
  | 3 => .dma (recvS 0) | 4 => .dma (recvS 1) | 5 => .dma (recvS 2)
/-- with the barrier before them. -/
abbrev csem : Fin 7 → SemLoc sig := fun
  | 0 => .reg barS
  | 1 => .dma (sendS 0) | 2 => .dma (sendS 1) | 3 => .dma (sendS 2)
  | 4 => .dma (recvS 0) | 5 => .dma (recvS 1) | 6 => .dma (recvS 2)
abbrev kcell (i : Dev nD × Fin 7) : GSem nD τ sig := ((i.1 : Thread nD τ), csem i.2)

/-- The places of slot `k`'s send and receive semaphores in the row. -/
def atSend : Fin 3 → Fin 7 := fun | 0 => 1 | 1 => 2 | 2 => 3
def atRecv : Fin 3 → Fin 7 := fun | 0 => 4 | 1 => 5 | 2 => 6
theorem kcell_send (k : Fin 3) (c : Dev nD) : kcell (c, atSend k) = sendCell k c := by fin_cases k <;> rfl
theorem kcell_recv (k : Fin 3) (c : Dev nD) : kcell (c, atRecv k) = recvCell k c := by fin_cases k <;> rfl

/-! ## What every device knows -/

/-- The invariants of all the cells, at the names `K`, and that each has reached its round. -/
def records (K : Dev nD × Fin 7 → ℕ) : sProp 𝕄 :=
  iprop((bigSep Finset.univ fun i : Dev nD × Fin 7 => cellInv ER (Rd m ρ) (K i) (kcell i))
    ∗ bigSep Finset.univ fun i : Dev nD × Fin 7 => reached ER (kcell i) 0)
instance records_persistent (K : Dev nD × Fin 7 → ℕ) : BI.Persistent (records m ρ K) := by unfold records; infer_instance

section Records
variable (K : Dev nD × Fin 7 → ℕ)

theorem inv_elim (i : Dev nD × Fin 7) :
    (bigSep Finset.univ fun i : Dev nD × Fin 7 => (cellInv ER (Rd m ρ) (K i) (kcell i) : sProp 𝕄)) ⊢ cellInv ER (Rd m ρ) (K i) (kcell i) :=
  bigSep_elim (Finset.mem_univ i)
omit [FloatOps F] in
theorem reached_elim (i : Dev nD × Fin 7) :
    (bigSep Finset.univ fun i : Dev nD × Fin 7 => (reached ER (kcell i) 0 : sProp 𝕄)) ⊢ reached ER (kcell i) 0 :=
  bigSep_elim (Finset.mem_univ i)
/-- The record of one cell. -/
theorem record_at (i : Dev nD × Fin 7) :
    records m ρ K ⊢ iprop(cellInv ER (Rd m ρ) (K i) (kcell i) ∗ reached ER (kcell i) 0) := by
  unfold records
  iintro ⟨#HI, #HR⟩
  isplitl []
  · iapply (inv_elim m ρ K i); iexact HI
  · iapply (reached_elim (F := F) i); iexact HR
theorem record_bar (c : Dev nD) :
    records m ρ K ⊢ iprop(cellInv ER (Rd m ρ) (K (c, 0)) (barCell c) ∗ reached ER (barCell c) 0) := record_at m ρ K (c, 0)
theorem record_send (k : Fin 3) (c : Dev nD) :
    records m ρ K ⊢ iprop(cellInv ER (Rd m ρ) (K (c, atSend k)) (sendCell k c) ∗ reached ER (sendCell k c) 0) := by
  rw [← kcell_send k c]; exact record_at m ρ K (c, atSend k)
theorem record_recv (k : Fin 3) (c : Dev nD) :
    records m ρ K ⊢ iprop(cellInv ER (Rd m ρ) (K (c, atRecv k)) (recvCell k c) ∗ reached ER (recvCell k c) 0) := by
  rw [← kcell_recv k c]; exact record_at m ρ K (c, atRecv k)
end Records

/-- Device `c` owes `O`, whatever waits it has recorded. -/
def ow (c : Dev nD) (O : CellTallies nD τ sig Unit) : sProp 𝕄 := iprop(∃ W : Waits sig Unit, owes (c : Thread nD τ) O W)

/-- Running `P` on device `c` to `Q`. -/
abbrev runs {α : Type} (c : Dev nD) (P : Prog (TpuEff nD τ sig (Elt F) Λ₀ .tc) α) (Q : α → sProp 𝕄) : sProp 𝕄 :=
  wp frame (wpE (defs₀ (F := F)) 𝒱₀ (c : Thread nD τ) none) Set.univ P Q

section Steps
variable (K : Dev nD × Fin 7 → ℕ) {α : Type}

/-- A signal to `n`, which is where slot `k` of `c` comes from: it pays duty `k` there, with slot `k` of `c`'s receive buffer. -/
theorem signal_step (k : Fin 3) (c n : Dev nD) (hn : n = orig k c) {v : ℤ} (hv : v = ((1 : ℕ) : ℤ)) {P : PUnit → Prog (TpuEff nD τ sig (Elt F) Λ₀ .tc) α} {Q : α → sProp 𝕄}
    (O : CellTallies nD τ sig Unit) :
    iprop(records m ρ K ∗ ow c (O + owedBar k c) ∗ dutyTok ER (barCell (orig k c)) 0 k ∗ (∃ X, slotPts (F := F) recvB k c X))
      ⊢ iprop((ow c O -∗ runs c (P ⟨⟩) Q) -∗ runs c (.op (.semSignal (n : Thread nD τ) barS v) P) Q) := by
  subst hn hv
  unfold ow
  iintro ⟨#Hrec, ⟨%W, HO⟩, Ht, Hs⟩ Hk
  ihave Hr := (record_bar m ρ K (orig k c)) $$ Hrec
  icases Hr with ⟨#HI, #HR⟩
  iapply (Rounds.wp_signal 𝒱₀ ER (Rd m ρ) (c : Thread nD τ) none (dst := (orig k c : Thread nD τ)) (κ := K (orig k c, 0))
      (d := k) (by rw [duties_bar]; exact Finset.mem_univ _) (amount_bar m ρ (orig k c) k) () O rfl) $$ [HO Ht Hs]
  · isplitr; · iexact HI
    isplitl [HO]; · iexact HO
    isplitl [Ht]; · iexact Ht
    isplitl [Hs]
    · rw [payload_bar]; unfold barPay; rw [dest_orig]; iexact Hs
    · iexact HR
  iintro HO
  iapply Hk; iexists W; iexact HO

/-- The wait at the barrier: every peer's slot comes with it, and the barrier's counter is zero again. -/
theorem barrier_step (c : Dev nD) {v : ℤ} (hv : v = ((3 : ℕ) : ℤ)) {P : PUnit → Prog (TpuEff nD τ sig (Elt F) Λ₀ .tc) α} {Q : α → sProp 𝕄} :
    iprop(records m ρ K ∗ levAts L lv ∗ cred (tallyAt (barCell c) () 3) ∗ ow c (O₁ c) ∗ atPos ER (barCell c) 0 ∅ 0)
      ⊢ iprop(((ow c (O₁ c) ∗ semVal (barCell c) 0 ∗ barPay (F := F) c 0 ∗ barPay (F := F) c 1 ∗ barPay (F := F) c 2) -∗ runs c (P ⟨⟩) Q)
          -∗ runs c (.op (.semWait barS v) P) Q) := by
  subst hv
  unfold ow
  iintro ⟨#Hrec, #Hlev, Hc, ⟨%W, HO⟩, Hat⟩ Hk
  ihave Hr := (record_bar m ρ K c) $$ Hrec
  icases Hr with ⟨#HI, #HR⟩
  iapply (Rounds.wp_wait_rest_token 𝒱₀ ER (Rd m ρ) (c : Thread nD τ) none (κ := K (c, 0))
      (wpE_semWait_eq 𝒱₀ (c : Thread nD τ) none Set.univ) (Set.mem_univ _) () (O := O₁ c) (W := W) (R := 0) (m := 0) (T := ∅)
      (by rw [expect_bar])) $$ [Hc HO Hat]
  · isplitr; · iexact HI
    isplitl [Hc]; · iexact Hc
    isplitl [HO]; · iexact HO
    isplitr; · iapply (mayWait_bar c); iexact Hlev
    iexact Hat
  iintro ⟨HO, Hat, -, Hpay⟩
  ihave Hp := (Entails.of_eq (rest_bar m ρ c)) $$ Hpay
  imod (Rounds.cell_close ER (Rd m ρ) (Set.mem_univ (K (c, 0))) (fun h => h) (R := 0 + 1) (duties_later m ρ (barCell c))) $$ [Hat] with Hz
  · isplitr; · iexact HI
    iexact Hat
  iapply Hk
  isplitl [HO]; · iexists _; iexact HO
  isplitl [Hz]; · iexact Hz
  iexact Hp

/-- Holding a slot's elements is holding those of the slot without its leading axis. -/
theorem flat_pts (b : Memref sig .tc .vmem S3x128x512 .bf16) (k : Fin 3) (c : Dev nD) (f : Buf (Elt F) ((slot b k).view.loc (c : Thread nD τ))) :
    ((flat b k).view.loc (c : Thread nD τ) ↦[(flat b k).view.set]{fullShare} f : sProp 𝕄)
      = ((slot b k).view.loc (c : Thread nD τ) ↦[(slot b k).view.set]{fullShare} f) :=
  congrArg (fun S => ((slot b k).view.loc (c : Thread nD τ) ↦[S]{fullShare} f : sProp 𝕄)) (flat_set b k)

/-- A landed copy of a send slot that reads its message is what the receiver waits for. -/
theorem landed_pay (k : Fin 3) (c : Dev nD) (fs : Buf (Elt F) ((slot sendB k).view.loc (c : Thread nD τ)))
    (fd : Buf (Elt F) ((slot recvB k).view.loc (dest k c : Thread nD τ))) (hfs : (slot sendB k).view.read (Elt F) fs = msg m ρ k c) :
    ((flat recvB k).view.loc (dest k c : Thread nD τ) ↦[(flat recvB k).view.set]{fullShare}
        ((flat recvB k).view.write (Elt F) fd ((flat sendB k).view.read (Elt F) fs) Finset.univ) : sProp 𝕄) ⊢ recvPay m ρ k (dest k c) := by
  rw [flat_pts]
  unfold recvPay slotPts
  iintro H
  iexists _
  isplitr
  rotate_left
  · iexact H
  · ipureintro; rw [orig_dest]; exact (slot_copy sendB recvB k fs fd).trans hfs

/-- The copy of slot `k` to `n`, which is where slot `k` of `c` goes, at given contents of the two slots; -/
theorem send_raw (k : Fin 3) (c n : Dev nD) (hn : n = dest k c)
    {hsc : (flat recvB k : Memref sig (Dev.tc n : Thread nD τ).2.kind .vmem S128x512 .bf16).view.ref.isScScratch = false}
    {hsrc : (flat sendB k).view.WordExact} {hdst : (flat recvB k).view.WordExact}
    {hsem : DmaTarget.Typed .vmem (.dma (recvS k))
      (.remote (Dev.tc n : Thread nD τ) (flat recvB k : Memref sig .tc .vmem S128x512 .bf16) (.dma (sendS k)) hsc)}
    {P : PUnit → Prog (TpuEff nD τ sig (Elt F) Λ₀ .tc) α} {Q : α → sProp 𝕄} (O : CellTallies nD τ sig Unit) (W : Waits sig Unit)
    (fs : Buf (Elt F) ((flat sendB k).view.loc (c : Thread nD τ))) (fd : Buf (Elt F) ((flat recvB k).view.loc (dest k c : Thread nD τ)))
    (hfs : (slot sendB k).view.read (Elt F) fs = msg m ρ k c) :
    iprop(cellInv ER (Rd m ρ) (K (c, atSend k)) (sendCell k c) ∗ cellInv ER (Rd m ρ) (K (dest k c, atRecv k)) (recvCell k (dest k c))
        ∗ ((flat sendB k).view.loc (c : Thread nD τ) ↦[(flat sendB k).view.set]{fullShare} fs)
        ∗ ((flat recvB k).view.loc (dest k c : Thread nD τ) ↦[(flat recvB k).view.set]{fullShare} fd)
        ∗ owes (c : Thread nD τ) (O + owedRecv k c) W
        ∗ dutyTok ER (sendCell k c) 0 0 ∗ reached ER (sendCell k c) 0
        ∗ dutyTok ER (recvCell k (dest k c)) 0 0 ∗ reached ER (recvCell k (dest k c)) 0)
      ⊢ iprop(((cred (tallyAt (sendCell k c) () N) ∗ owes (c : Thread nD τ) O W) -∗ runs c (P ⟨⟩) Q)
          -∗ runs c (.op (.enqueueDma (flat sendB k) (.remote (Dev.tc n : Thread nD τ) (flat recvB k) (.dma (sendS k)) hsc) (.dma (recvS k)) hsrc hdst hsem) P) Q) := by
  subst hn
  exact Rounds.wp_send_pointsTo 𝒱₀ ER (Rd m ρ) (c : Thread nD τ) none (κ₁ := K (c, atSend k)) (κ₂ := K (dest k c, atRecv k))
    (r₁ := 0) (r₂ := 0) (d₁ := 0) (d₂ := 0) (fs := fs) (fd := fd)
    (by rw [duties_send]; exact Finset.mem_singleton_self _) (by rw [duties_recv]; exact Finset.mem_singleton_self _)
    () () N (show (flat recvB k).view.amount (SemLoc.dma (recvS k) : SemLoc sig) = N from credit_recv k) (amount_send m ρ k c 0) (amount_recv m ρ k (dest k c) 0) O rfl (W := W)
    (by
      rw [payload_send, flat_pts]; unfold sendPay slotPts
      iintro H; iexists fs; isplitr; · ipureintro; exact hfs
      iexact H)
    (by rw [payload_recv]; exact landed_pay m ρ k c fs fd hfs)

/-- and from the two slots held. -/
theorem send_step (k : Fin 3) (c n : Dev nD) (hn : n = dest k c)
    {hsc : (flat recvB k : Memref sig (Dev.tc n : Thread nD τ).2.kind .vmem S128x512 .bf16).view.ref.isScScratch = false}
    {hsrc : (flat sendB k).view.WordExact} {hdst : (flat recvB k).view.WordExact}
    {hsem : DmaTarget.Typed .vmem (.dma (recvS k))
      (.remote (Dev.tc n : Thread nD τ) (flat recvB k : Memref sig .tc .vmem S128x512 .bf16) (.dma (sendS k)) hsc)}
    {P : PUnit → Prog (TpuEff nD τ sig (Elt F) Λ₀ .tc) α} {Q : α → sProp 𝕄} (O : CellTallies nD τ sig Unit) :
    iprop(records m ρ K ∗ slotPts sendB k c (msg m ρ k c) ∗ barPay (F := F) c k ∗ ow c (O + owedRecv k c)
        ∗ dutyTok ER (sendCell k c) 0 0 ∗ dutyTok ER (recvCell k (dest k c)) 0 0)
      ⊢ iprop(((cred (tallyAt (sendCell k c) () N) ∗ ow c O) -∗ runs c (P ⟨⟩) Q)
          -∗ runs c (.op (.enqueueDma (flat sendB k) (.remote (Dev.tc n : Thread nD τ) (flat recvB k) (.dma (sendS k)) hsc) (.dma (recvS k)) hsrc hdst hsem) P) Q) := by
  unfold ow barPay slotPts
  iintro ⟨#Hrec, ⟨%fs, %hfs, Hs⟩, ⟨%X, %fd, %hfd, Hd⟩, ⟨%W, HO⟩, Ht, Ht'⟩ Hk
  ihave Hr1 := (record_send m ρ K k c) $$ Hrec
  icases Hr1 with ⟨#HI1, #HR1⟩
  ihave Hr2 := (record_recv m ρ K k (dest k c)) $$ Hrec
  icases Hr2 with ⟨#HI2, #HR2⟩
  iapply (send_raw m ρ K k c n hn O W fs fd hfs) $$ [Hs Hd HO Ht Ht']
  · isplitr; · iexact HI1
    isplitr; · iexact HI2
    isplitl [Hs]; · iapply (Entails.of_eq (flat_pts sendB k c fs).symm); iexact Hs
    isplitl [Hd]; · iapply (Entails.of_eq (flat_pts recvB k (dest k c) fd).symm); iexact Hd
    isplitl [HO]; · iexact HO
    isplitl [Ht]; · iexact Ht
    isplitr; · iexact HR1
    isplitl [Ht']; · iexact Ht'
    iexact HR2
  iintro ⟨Hc, HO⟩
  iapply Hk
  isplitl [Hc]; · iexact Hc
  iexists W; iexact HO

/-- The wait for send slot `k` to have been read: the slot comes back, and the semaphore's counter is zero again. -/
theorem waitSend_step (k : Fin 3) (c : Dev nD) {sp : Space} {s : Shape} {e : EltTy} {src : Memref sig .tc sp s e}
    {hsrc : src.view.WordExact} {hdst : (flat sendB k).view.WordExact}
    {P : PUnit → Prog (TpuEff nD τ sig (Elt F) Λ₀ .tc) α} {Q : α → sProp 𝕄} :
    iprop(records m ρ K ∗ cred (tallyAt (sendCell k c) () N) ∗ ow c 0 ∗ atPos ER (sendCell k c) 0 ∅ 0)
      ⊢ iprop(((ow c 0 ∗ semVal (sendCell k c) 0 ∗ slotPts sendB k c (msg m ρ k c)) -∗ runs c (P ⟨⟩) Q)
          -∗ runs c (.op (.waitDma2 (sendS k) src (flat sendB k) hsrc hdst) P) Q) := by
  unfold ow
  iintro ⟨#Hrec, Hc, ⟨%W, HO⟩, Hat⟩ Hk
  ihave Hr := (record_send m ρ K k c) $$ Hrec
  icases Hr with ⟨#HI, #HR⟩
  iapply (Rounds.wp_wait_rest_token 𝒱₀ ER (Rd m ρ) (c : Thread nD τ) none (κ := K (c, atSend k))
      (wpE_waitDma2_eq 𝒱₀ (c : Thread nD τ) none Set.univ) (Set.mem_univ _) () (O := 0) (W := W) (R := 0) (m := 0) (T := ∅)
      (by rw [Nat.zero_add, expect_send, credit_send])) $$ [Hc HO Hat]
  · isplitr; · iexact HI
    isplitl [Hc]; · rw [credit_send]; iexact Hc
    isplitl [HO]; · iexact HO
    isplitr; · rw [MayWait_zero]; iempintro
    iexact Hat
  iintro ⟨HO, Hat, -, Hpay⟩
  ihave Hp := (Entails.of_eq ((rest_send m ρ k c).trans (show sendPay m ρ k c = slotPts sendB k c (msg m ρ k c) from rfl))) $$ Hpay
  imod (Rounds.cell_close ER (Rd m ρ) (Set.mem_univ (K (c, atSend k))) (fun h => h) (R := 0 + 1) (duties_later m ρ (sendCell k c))) $$ [Hat] with Hz
  · isplitr; · iexact HI
    iexact Hat
  iapply Hk
  isplitl [HO]; · iexists _; iexact HO
  isplitl [Hz]; · iexact Hz
  iexact Hp

/-- The wait for slot `k` to land: the receive slot comes with its sender's message, and the counter is zero again. -/
theorem waitRecv_step (k : Fin 3) (c : Dev nD) {sp : Space} {s : Shape} {e : EltTy} {src : Memref sig .tc sp s e}
    {hsrc : src.view.WordExact} {hdst : (flat recvB k).view.WordExact}
    {P : PUnit → Prog (TpuEff nD τ sig (Elt F) Λ₀ .tc) α} {Q : α → sProp 𝕄} :
    iprop(records m ρ K ∗ cred (tallyAt (recvCell k c) () N) ∗ ow c 0 ∗ atPos ER (recvCell k c) 0 ∅ 0)
      ⊢ iprop(((ow c 0 ∗ semVal (recvCell k c) 0 ∗ slotPts recvB k c (msg m ρ k (orig k c))) -∗ runs c (P ⟨⟩) Q)
          -∗ runs c (.op (.waitDma2 (recvS k) src (flat recvB k) hsrc hdst) P) Q) := by
  unfold ow
  iintro ⟨#Hrec, Hc, ⟨%W, HO⟩, Hat⟩ Hk
  ihave Hr := (record_recv m ρ K k c) $$ Hrec
  icases Hr with ⟨#HI, #HR⟩
  iapply (Rounds.wp_wait_rest_token 𝒱₀ ER (Rd m ρ) (c : Thread nD τ) none (κ := K (c, atRecv k))
      (wpE_waitDma2_eq 𝒱₀ (c : Thread nD τ) none Set.univ) (Set.mem_univ _) () (O := 0) (W := W) (R := 0) (m := 0) (T := ∅)
      (by rw [Nat.zero_add, expect_recv, credit_recv])) $$ [Hc HO Hat]
  · isplitr; · iexact HI
    isplitl [Hc]; · rw [credit_recv]; iexact Hc
    isplitl [HO]; · iexact HO
    isplitr; · rw [MayWait_zero]; iempintro
    iexact Hat
  iintro ⟨HO, Hat, -, Hpay⟩
  ihave Hp := (Entails.of_eq ((rest_recv m ρ k c).trans (show recvPay m ρ k c = slotPts recvB k c (msg m ρ k (orig k c)) from rfl))) $$ Hpay
  imod (Rounds.cell_close ER (Rd m ρ) (Set.mem_univ (K (c, atRecv k))) (fun h => h) (R := 0 + 1) (duties_later m ρ (recvCell k c))) $$ [Hat] with Hz
  · isplitr; · iexact HI
    iexact Hat
  iapply Hk
  isplitl [HO]; · iexists _; iexact HO
  isplitl [Hz]; · iexact Hz
  iexact Hp

/-- A load of a slot reads its contents. -/
theorem load_step (b : Memref sig .tc .vmem S3x128x512 .bf16) (k : Fin 3) (c : Dev nD) (X : S1x128x512.Idx → Elt F .bf16)
    {hl : b.view.LoadsAt (slotRect k).toLoadRect} {P : Vec F S1x128x512 .bf16 → Prog (TpuEff nD τ sig (Elt F) Λ₀ .tc) α} {Q : α → sProp 𝕄} :
    slotPts b k c X
      ⊢ iprop((slotPts b k c X -∗ runs c (P X) Q) -∗ runs c (.op (.load b (slotRect k).toLoadRect hl) P) Q) := by
  unfold slotPts
  iintro ⟨%f, %hf, H⟩ Hk
  iapply (wp_load_rect 𝒱₀ (c : Thread nD τ) none Set.univ (m := b) (r := slotRect k) (S := (slot b k).view.set) (f := f) (Finset.Subset.refl _)) $$ H
  iintro H
  rw [show (b.access (slotRect k)).read (Elt F) f = X from hf]
  iapply Hk
  iexists f; isplitr; · ipureintro; exact hf
  iexact H

/-- A store into a slot makes it read what is stored. -/
theorem store_step (b : Memref sig .tc .vmem S3x128x512 .bf16) (k : Fin 3) (c : Dev nD) (X w : S1x128x512.Idx → Elt F .bf16)
    {hx : (b.access (slotRect k)).Stores Finset.univ} {hm} {P : PUnit → Prog (TpuEff nD τ sig (Elt F) Λ₀ .tc) α} {Q : α → sProp 𝕄} :
    slotPts b k c X
      ⊢ iprop((slotPts b k c w -∗ runs c (P ⟨⟩) Q) -∗ runs c (.op (.store b (slotRect k) w Finset.univ hx hm) P) Q) := by
  unfold slotPts
  iintro ⟨%f, %hf, H⟩ Hk
  iapply (wp_store 𝒱₀ (c : Thread nD τ) none Set.univ (m := b) (r := slotRect k) (S := (slot b k).view.set) (f := f) (Mk := Finset.univ)
    (Finset.Subset.refl _)) $$ H
  iintro H
  iapply Hk
  iexists _
  isplitr
  rotate_left
  · iexact H
  · ipureintro; exact View.read_write_univ _ _

end Steps

end Cert.MoE
-- ==== Proof.Body.lean ====
/-
The kernel's run on one device, from what the launch gives it to what it leaves: the three messages sent and received,
the result buffer at `out`, every semaphore back at zero.
-/
module

public import proofs.«01_k».proof.Proof.Steps
public import proofs.«01_k».proof.Proof.Gen.KernelIdeal.Points

@[expose] public section

noncomputable section

namespace Cert.MoE

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## What a device starts from and what it leaves -/

/-- The tokens device `c` pays with for slot `k`: its sender's barrier, its own send semaphore, its receiver's semaphore. -/
def payToks (k : Fin 3) (c : Dev nD) : sProp 𝕄 :=
  iprop(dutyTok ER (barCell (orig k c)) 0 k ∗ dutyTok ER (sendCell k c) 0 0 ∗ dutyTok ER (recvCell k (dest k c)) 0 0)
/-- Its positions at slot `k`'s two semaphores. -/
def slotPos (k : Fin 3) (c : Dev nD) : sProp 𝕄 := iprop(atPos ER (sendCell k c) 0 ∅ 0 ∗ atPos ER (recvCell k c) 0 ∅ 0)

/-- The protocol's state that device `c` holds: its positions and its tokens. -/
def linear (c : Dev nD) : sProp 𝕄 :=
  iprop((atPos ER (barCell c) 0 ∅ 0 ∗ slotPos 0 c ∗ slotPos 1 c ∗ slotPos 2 c) ∗ payToks 0 c ∗ payToks 1 c ∗ payToks 2 c)

/-- The credit device `c` waits with: three signals, and a landing in each slot. -/
def credits (c : Dev nD) : sProp 𝕄 :=
  iprop(cred (tallyAt (barCell c) () 3) ∗ cred (tallyAt (recvCell 0 c) () N) ∗ cred (tallyAt (recvCell 1 c) () N) ∗ cred (tallyAt (recvCell 2 c) () N))

/-- What the launch gives device `c`. -/
def start (c : Dev nD) : sProp 𝕄 := iprop((∃ K, records m ρ K ∗ linear c) ∗ credits c ∗ levAts L lv)

/-- A scratch buffer of device `c` at some contents. -/
abbrev scratch (c : Dev nD) (b : Ref sig .tc) : sProp 𝕄 := iprop(∃ f : Buf (Elt F) ((c : Thread nD τ).loc b), ((c : Thread nD τ).loc b) ↦{fullShare} f)
/-- The kernel's three scratch buffers. -/
abbrev scratches (c : Dev nD) : sProp 𝕄 :=
  iprop(scratch (F := F) c cc0_scratch0 ∗ scratch (F := F) c cc0_scratch1 ∗ scratch (F := F) c cc0_scratch2)

/-- Every semaphore of device `c` at zero: the barrier, the sends, the receives. -/
def zeros (c : Dev nD) : sProp 𝕄 :=
  iprop(semVal (barCell c) 0 ∗ (semVal (sendCell 0 c) 0 ∗ semVal (sendCell 1 c) 0 ∗ semVal (sendCell 2 c) 0)
    ∗ semVal (recvCell 0 c) 0 ∗ semVal (recvCell 1 c) 0 ∗ semVal (recvCell 2 c) 0)

def Φ₀ (c : Dev nD) : sProp 𝕄 := iprop(start m ρ c ∗ scratches (F := F) c)
def Φ₁ (c : Dev nD) : sProp 𝕄 := iprop(scratches (F := F) c ∗ zeros c)

/-- The kernel's proof data: the arrays as at launch, the operands' staging buffers kept, the result's at `out`. -/
def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xs m ρ c
    | ⟨1, _⟩ => ids m ρ c
    | ⟨2, _⟩ => ws m ρ c
    | ⟨3, _⟩ => out m ρ c
  Φ t := match t with
    | ⟨0, _⟩ => Φ₀ m ρ c
    | ⟨_ + 1, _⟩ => Φ₁ c
  q _ := fullShare
  owed t := match t with
    | ⟨0, _⟩ => O₀ c
    | ⟨_ + 1, _⟩ => 0

/-- The kernel's one point. -/
abbrev t₀ : Fin cfg0.N := t0_0

/-- A staging buffer of device `c` at contents `X`. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

omit [FloatOps F] in
theorem owns_stg (c : Dev nD) (b : Ref sig .tc) (X : b.ty.Contents (Elt F)) :
    (owns (Ix := Unit) (Name := ℕ) (U := UU) (Lvl := ℕ) (c : Thread nD τ) (Memref.whole b) fullShare X : sProp 𝕄) = stg c b X := by
  unfold owns; simp only [Memref.view_whole, View.read_whole, View.set_whole]

/-! ## Reading and writing whole buffers -/

theorem z2 : (![0, 0] : Fin 2 → ℕ) = fun _ => 0 := funext fun a => by fin_cases a <;> rfl
theorem z3 : (![0, 0, 0] : Fin 3 → ℕ) = fun _ => 0 := funext fun a => by fin_cases a <;> rfl

/-- A load from a buffer held whole reads what the view reads, `X`. -/
theorem load_as {s : Shape} {e : EltTy} (M : Memref sig .tc .vmem s e) (c : Dev nD) (r : LoadRect s)
    (f : Buf (Elt F) (M.view.loc (c : Thread nD τ))) (X : Vec F r.shape e) (hX : M.view.readAt (Elt F) r f = X) {α : Type} {hl : M.view.LoadsAt r}
    {P : Vec F r.shape e → Prog (TpuEff nD τ sig (Elt F) Λ₀ .tc) α} {Q : α → sProp 𝕄} :
    (M.view.loc (c : Thread nD τ) ↦{fullShare} f)
      ⊢ iprop(((M.view.loc (c : Thread nD τ) ↦{fullShare} f) -∗ runs c (P X) Q) -∗ runs c (.op (.load M r hl) P) Q) := by
  subst hX
  iintro H Hk
  iapply (wp_load 𝒱₀ (c : Thread nD τ) none Set.univ (m := M) (Finset.subset_univ _)) $$ H
  iintro H
  iapply Hk; iexact H

/-- A store into a buffer held whole leaves it at what the view writes, `g`. -/
theorem store_as {s : Shape} {e : EltTy} (M : Memref sig .tc .vmem s e) (c : Dev nD) (r : Rect s) (w : Vec F r.shape e)
    (f g : Buf (Elt F) (M.view.loc (c : Thread nD τ))) (hg : (M.access r).write (Elt F) f w Finset.univ = g) {α : Type}
    {hx : (M.access r).Stores Finset.univ} {hm} {P : PUnit → Prog (TpuEff nD τ sig (Elt F) Λ₀ .tc) α} {Q : α → sProp 𝕄} :
    (M.view.loc (c : Thread nD τ) ↦{fullShare} f)
      ⊢ iprop(((M.view.loc (c : Thread nD τ) ↦{fullShare} g) -∗ runs c (P ⟨⟩) Q) -∗ runs c (.op (.store M r w Finset.univ hx hm) P) Q) := by
  subst hg
  iintro H Hk
  iapply (wp_store 𝒱₀ (c : Thread nD τ) none Set.univ (m := M) (r := r) (Mk := Finset.univ) (Finset.subset_univ _)) $$ H
  iintro H
  iapply Hk; iexact H

/-! ## The run -/

/-- The kernel's body, on the buffers the launch calls it with. -/
abbrev kernel : Prog (TpuEff nD τ sig (Elt F) Λ₀ .tc) PUnit :=
  cc0_body (Memref.whole cc0_stg0_0) (Memref.isWhole_whole _) (Memref.whole cc0_stg1_0) (Memref.isWhole_whole _)
    (Memref.whole cc0_stg2_0) (Memref.isWhole_whole _) (Memref.whole cc0_stg3_0) (Memref.isWhole_whole _)
    (Memref.whole cc0_scratch0) (Memref.isWhole_whole _) (Memref.whole cc0_scratch1) (Memref.isWhole_whole _)
    (Memref.whole cc0_scratch2) (Memref.isWhole_whole _) cc0_scratch3 cc0_scratch4

set_option maxHeartbeats 1600000 in
set_option maxRecDepth 65536 in
/-- The run of the body on device `c`, from its operands and a result buffer at any contents. -/
theorem run_body (K : Dev nD × Fin 7 → ℕ) (c : Dev nD) (o : (cc0_stg3_0 : Ref sig .tc).ty.Contents (Elt F)) (Q : PUnit → sProp 𝕄) :
    iprop(records m ρ K ∗ linear c ∗ credits c ∗ levAts L lv ∗ scratches (F := F) c ∗ ow c (O₀ c)
        ∗ (((c : Thread nD τ).loc cc0_stg0_0) ↦{fullShare} xs m ρ c) ∗ (((c : Thread nD τ).loc cc0_stg1_0) ↦{fullShare} ids m ρ c)
        ∗ (((c : Thread nD τ).loc cc0_stg2_0) ↦{fullShare} ws m ρ c) ∗ (((c : Thread nD τ).loc cc0_stg3_0) ↦{fullShare} o))
      ⊢ iprop(((Φ₁ (F := F) c ∗ ow c 0
          ∗ (((c : Thread nD τ).loc cc0_stg0_0) ↦{fullShare} xs m ρ c) ∗ (((c : Thread nD τ).loc cc0_stg1_0) ↦{fullShare} ids m ρ c)
          ∗ (((c : Thread nD τ).loc cc0_stg2_0) ↦{fullShare} ws m ρ c) ∗ (((c : Thread nD τ).loc cc0_stg3_0) ↦{fullShare} out m ρ c)) -∗ Q ⟨⟩)
        -∗ runs c (kernel (F := F)) Q) := by
  unfold kernel
  rw [cc0_body_eq_skeleton]; unfold cc0_body_skel
  simp only [k0_part1_eq_skeleton, k0_part2_eq_skeleton, k0_part3_eq_skeleton, k0_part4_eq_skeleton, k0_part5_eq_skeleton, k0_part6_eq_skeleton]
  unfold k0_part1_skel k0_part2_skel k0_part3_skel k0_part4_skel k0_part5_skel k0_part6_skel
  simp only [semSignalWord, semWaitWord, Prog.lift, Prog.bind_op, Prog.bind_ret, Prog.pure_eq_ret, wp_deviceId]
  unfold linear credits payToks slotPos
  iintro ⟨#Hrec, ⟨⟨HaB, ⟨HaS0, HaR0⟩, ⟨HaS1, HaR1⟩, HaS2, HaR2⟩, ⟨HtB0, HtS0, HtR0⟩, ⟨HtB1, HtS1, HtR1⟩, HtB2, HtS2, HtR2⟩,
    ⟨HcB, HcR0, HcR1, HcR2⟩, #Hlev, ⟨⟨%f0, Hcat⟩, Hsend, Hrecv⟩, HO, Hx, Hi, Hw, Ho⟩ Hk
  ihave Hsend := (slots_split sendB sendB_cover c) $$ Hsend
  icases Hsend with ⟨⟨%X0, Hs0⟩, ⟨%X1, Hs1⟩, ⟨%X2, Hs2⟩⟩
  ihave Hrecv := (slots_split recvB recvB_cover c) $$ Hrecv
  icases Hrecv with ⟨Hr0, Hr1, Hr2⟩
  -- the three signals
  unfold O₀
  iapply (signal_step m ρ K 2 c _ (Fin.ext (k0_dev1_eq c)) (by decide) (O₁ c + owedBar 0 c + owedBar 1 c)) $$ [HO HtB2 Hr2]
  · isplitr; · iexact Hrec
    isplitl [HO]; · iexact HO
    isplitl [HtB2] <;> iassumption
  iintro HO
  iapply (signal_step m ρ K 1 c _ (Fin.ext (k0_dev2_eq c)) (by decide) (O₁ c + owedBar 0 c)) $$ [HO HtB1 Hr1]
  · isplitr; · iexact Hrec
    isplitl [HO]; · iexact HO
    isplitl [HtB1] <;> iassumption
  iintro HO
  iapply (signal_step m ρ K 0 c _ (Fin.ext (k0_dev3_eq c)) (by decide) (O₁ c)) $$ [HO HtB0 Hr0]
  · isplitr; · iexact Hrec
    isplitl [HO]; · iexact HO
    isplitl [HtB0] <;> iassumption
  iintro HO
  -- the barrier
  iapply (barrier_step m ρ K c (by decide)) $$ [HcB HO HaB]
  · isplitr; · iexact Hrec
    isplitr; · iexact Hlev
    isplitl [HcB]; · iexact HcB
    isplitl [HO]; · iexact HO
    iexact HaB
  iintro ⟨HO, HzB, Hp0, Hp1, Hp2⟩
  -- the masked tokens
  iapply (load_as (Memref.whole cc0_stg1_0) c _ (ids m ρ c) (ids m ρ c) (Memref.readAt_unit_zero (Elt F) cc0_stg1_0 z2 _ _)) $$ Hi; iintro Hi
  iapply (load_as (Memref.whole cc0_stg0_0) c _ (xs m ρ c) (xs m ρ c) (Memref.readAt_unit_zero (Elt F) cc0_stg0_0 z2 _ _)) $$ Hx; iintro Hx
  iapply (load_as (Memref.whole cc0_scratch0) c _ f0 f0 (Memref.readAt_unit_zero (Elt F) cc0_scratch0 z2 _ _)) $$ Hcat; iintro Hcat
  iapply (store_as (Memref.whole cc0_scratch0) c _ (xcat m ρ c) f0 (xcat m ρ c) (Memref.write_access_unit_zero_univ (Elt F) cc0_scratch0 z2 _ _ _)) $$ Hcat; iintro Hcat
  iapply (load_as (Memref.whole cc0_stg2_0) c _ (ws m ρ c) (ws m ρ c) (Memref.readAt_unit_zero (Elt F) cc0_stg2_0 z3 _ _)) $$ Hw; iintro Hw
  -- slot 1
  iapply (load_as (Memref.whole cc0_scratch0) c _ (xcat m ρ c) (sentRows m ρ 1 c) rfl) $$ Hcat; iintro Hcat
  iapply (load_step sendB 1 c X1) $$ Hs1; iintro Hs1
  iapply (store_step sendB 1 c X1) $$ Hs1; iintro Hs1
  iapply (send_step m ρ K 1 c _ (Fin.ext (k0_dev4_eq c)) (owedRecv 2 c + owedRecv 0 c)) $$ [Hs1 Hp1 HO HtS1 HtR1]
  · isplitr; · iexact Hrec
    isplitl [Hs1]; · iexact Hs1
    isplitl [Hp1]; · iexact Hp1
    isplitl [HO]; · iexact HO
    isplitl [HtS1] <;> iassumption
  iintro ⟨HcS1, HO⟩
  -- slot 0
  iapply (load_as (Memref.whole cc0_scratch0) c _ (xcat m ρ c) (sentRows m ρ 0 c) rfl) $$ Hcat; iintro Hcat
  iapply (load_step sendB 0 c X0) $$ Hs0; iintro Hs0
  iapply (store_step sendB 0 c X0) $$ Hs0; iintro Hs0
  iapply (send_step m ρ K 0 c _ (Fin.ext (k0_dev5_eq c)) (owedRecv 2 c)) $$ [Hs0 Hp0 HO HtS0 HtR0]
  · isplitr; · iexact Hrec
    isplitl [Hs0]; · iexact Hs0
    isplitl [Hp0]; · iexact Hp0
    isplitl [HO]; · iexact HO
    isplitl [HtS0] <;> iassumption
  iintro ⟨HcS0, HO⟩
  -- slot 2
  iapply (load_as (Memref.whole cc0_scratch0) c _ (xcat m ρ c) (sentRows m ρ 2 c) rfl) $$ Hcat; iintro Hcat
  iapply (load_step sendB 2 c X2) $$ Hs2; iintro Hs2
  iapply (store_step sendB 2 c X2) $$ Hs2; iintro Hs2
  iapply (send_step m ρ K 2 c _ (Fin.ext (k0_dev6_eq c)) 0) $$ [Hs2 Hp2 HO HtS2 HtR2]
  · isplitr; · iexact Hrec
    isplitl [Hs2]; · iexact Hs2
    isplitl [Hp2]; · iexact Hp2
    isplitl [HO]; · rw [zero_add]; iexact HO
    isplitl [HtS2] <;> iassumption
  iintro ⟨HcS2, HO⟩
  -- its own rows, and the waits
  iapply (load_as (Memref.whole cc0_scratch0) c _ (xcat m ρ c) (ownRows m ρ c) rfl) $$ Hcat; iintro Hcat
  iapply (waitSend_step m ρ K 1 c) $$ [HcS1 HO HaS1]
  · isplitr; · iexact Hrec
    isplitl [HcS1]; · iexact HcS1
    isplitl [HO] <;> iassumption
  iintro ⟨HO, HzS1, Hs1⟩
  iapply (waitSend_step m ρ K 0 c) $$ [HcS0 HO HaS0]
  · isplitr; · iexact Hrec
    isplitl [HcS0]; · iexact HcS0
    isplitl [HO] <;> iassumption
  iintro ⟨HO, HzS0, Hs0⟩
  iapply (waitSend_step m ρ K 2 c) $$ [HcS2 HO HaS2]
  · isplitr; · iexact Hrec
    isplitl [HcS2]; · iexact HcS2
    isplitl [HO] <;> iassumption
  iintro ⟨HO, HzS2, Hs2⟩
  iapply (waitRecv_step m ρ K 1 c) $$ [HcR1 HO HaR1]
  · isplitr; · iexact Hrec
    isplitl [HcR1]; · iexact HcR1
    isplitl [HO] <;> iassumption
  iintro ⟨HO, HzR1, Hr1⟩
  iapply (waitRecv_step m ρ K 0 c) $$ [HcR0 HO HaR0]
  · isplitr; · iexact Hrec
    isplitl [HcR0]; · iexact HcR0
    isplitl [HO] <;> iassumption
  iintro ⟨HO, HzR0, Hr0⟩
  iapply (waitRecv_step m ρ K 2 c) $$ [HcR2 HO HaR2]
  · isplitr; · iexact Hrec
    isplitl [HcR2]; · iexact HcR2
    isplitl [HO] <;> iassumption
  iintro ⟨HO, HzR2, Hr2⟩
  -- the three messages received, and the result
  iapply (load_step recvB 0 c (msg m ρ 0 (orig 0 c))) $$ Hr0; iintro Hr0
  iapply (load_step recvB 1 c (msg m ρ 1 (orig 1 c))) $$ Hr1; iintro Hr1
  iapply (load_step recvB 2 c (msg m ρ 2 (orig 2 c))) $$ Hr2; iintro Hr2
  iapply (load_as (Memref.whole cc0_stg3_0) c _ o o (Memref.readAt_unit_zero (Elt F) cc0_stg3_0 z2 _ _)) $$ Ho; iintro Ho
  iapply (store_as (Memref.whole cc0_stg3_0) c _ (out m ρ c) o (out m ρ c) (Memref.write_access_unit_zero_univ (Elt F) cc0_stg3_0 z2 _ _ _)) $$ Ho; iintro Ho
  unfold runs; rw [wp_ret]; imodintro
  iapply Hk
  unfold Φ₁ zeros
  isplitl [Hcat Hs0 Hs1 Hs2 Hr0 Hr1 Hr2 HzB HzS0 HzS1 HzS2 HzR0 HzR1 HzR2]
  · isplitl [Hcat Hs0 Hs1 Hs2 Hr0 Hr1 Hr2]
    · isplitl [Hcat]; · iexists _; iexact Hcat
      isplitl [Hs0 Hs1 Hs2]
      · iapply (slots_join (F := F) sendB sendB_cover c)
        isplitl [Hs0]; · iexists _; iexact Hs0
        isplitl [Hs1]; · iexists _; iexact Hs1
        iexists _; iexact Hs2
      · iapply (slots_join (F := F) recvB recvB_cover c)
        isplitl [Hr0]; · iexists _; iexact Hr0
        isplitl [Hr1]; · iexists _; iexact Hr1
        iexists _; iexact Hr2
    · isplitl [HzB]; · iexact HzB
      isplitl [HzS0 HzS1 HzS2]
      · isplitl [HzS0]; · iexact HzS0
        isplitl [HzS1] <;> iassumption
      · isplitl [HzR0]; · iexact HzR0
        isplitl [HzR1] <;> iassumption
  isplitl [HO]; · iexact HO
  isplitl [Hx]; · iexact Hx
  isplitl [Hi]; · iexact Hi
  isplitl [Hw]; · iexact Hw
  iexact Ho

end Cert.MoE
-- ==== Proof.Launch.lean ====
/-
The launch: what the devices are dealt, that the body meets the launch's obligation, and the run of the whole program on
four devices.
-/
module

public import proofs.«01_k».proof.Proof.Body
public import Idealize.ShloMosaic.Lib.Pipeline.CollectiveSegs
public import proofs.«01_k».proof.Proof.Gen.KernelIdeal.Points

@[expose] public section

noncomputable section

namespace Cert.MoE

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The body meets the launch's obligation -/

/-- The result's staging buffer starts at anything; the operands' hold their blocks. -/
def entry (c : Dev nD) : sProp 𝕄 :=
  iprop(Φ₀ m ρ c ∗ (dats m ρ 0 c).owesAt () t₀.castSucc
    ∗ (∃ d, stg c cc0_stg0_0 ((dats m ρ 0 c).before (0 : Fin 4) t₀ d))
    ∗ (∃ d, stg c cc0_stg1_0 ((dats m ρ 0 c).before (1 : Fin 4) t₀ d))
    ∗ (∃ d, stg c cc0_stg2_0 ((dats m ρ 0 c).before (2 : Fin 4) t₀ d))
    ∗ (∃ d, stg c cc0_stg3_0 ((dats m ρ 0 c).before (3 : Fin 4) t₀ d)))
/-- The body leaves the operands as they were and the result at `out`. -/
def exit (c : Dev nD) : sProp 𝕄 :=
  iprop(Φ₁ (F := F) c ∗ (dats m ρ 0 c).owesAt () t₀.succ
    ∗ stg c cc0_stg0_0 (xs m ρ c) ∗ stg c cc0_stg1_0 (ids m ρ c) ∗ stg c cc0_stg2_0 (ws m ρ c) ∗ stg c cc0_stg3_0 (out m ρ c))

/-- The operands' buffers before the body hold what the launch fetched. -/
theorem before_x (c : Dev nD) (d) : (dats m ρ 0 c).before (0 : Fin 4) t₀ d = xs m ρ c := by
  unfold Dat.before; rw [if_pos (fetch0_0 t₀)]; rfl
theorem before_i (c : Dev nD) (d) : (dats m ρ 0 c).before (1 : Fin 4) t₀ d = ids m ρ c := by
  unfold Dat.before; rw [if_pos (fetch0_1 t₀)]; rfl
theorem before_w (c : Dev nD) (d) : (dats m ρ 0 c).before (2 : Fin 4) t₀ d = ws m ρ c := by
  unfold Dat.before; rw [if_pos (fetch0_2 t₀)]; rfl

/-- The body from `entry` to `exit`. -/
theorem body_run (c : Dev nD) : entry m ρ c ⊢ runs c (kernel (F := F)) (fun _ => exit m ρ c) := by
  unfold entry Φ₀ start
  iintro ⟨⟨⟨⟨%K, Hrec, Hlin⟩, Hcr, Hlev⟩, Hscr⟩, Ho, ⟨%d0, %g0, %hg0, Hx⟩, ⟨%d1, %g1, %hg1, Hi⟩, ⟨%d2, %g2, %hg2, Hw⟩, ⟨%d3, %g3, %hg3, Hout⟩⟩
  rw [before_x] at hg0; rw [before_i] at hg1; rw [before_w] at hg2
  subst hg0 hg1 hg2
  unfold Dat.owesAt Pipeline.owesWithin
  icases Ho with ⟨%W, %hW, HO⟩
  rw [show (dats m ρ 0 c).owed t₀.castSucc = O₀ c from rfl]
  iapply (run_body m ρ K c g3 fun _ => exit m ρ c) $$ [Hrec Hlin Hcr Hlev Hscr HO Hx Hi Hw Hout]
  · isplitl [Hrec]; · iexact Hrec
    isplitl [Hlin]; · iexact Hlin
    isplitl [Hcr]; · iexact Hcr
    isplitl [Hlev]; · iexact Hlev
    isplitl [Hscr]; · iexact Hscr
    isplitl [HO]; · unfold ow; iexists W; iexact HO
    isplitl [Hx]; · iexact Hx
    isplitl [Hi]; · iexact Hi
    isplitl [Hw] <;> iassumption
  unfold exit Dat.owesAt Pipeline.owesWithin ow
  rw [show (dats m ρ 0 c).owed t₀.succ = 0 from rfl]
  iintro ⟨HP, ⟨%W', HO⟩, Hx, Hi, Hw, Hout⟩
  isplitl [HP]; · iexact HP
  isplitl [HO]
  · iexists W'; isplitr; · ipureintro; exact fun _ _ => Or.inl trivial
    iexact HO
  isplitl [Hx]
  · iexists _; isplitr; · (ipureintro; rfl)
    iexact Hx
  isplitl [Hi]
  · iexists _; isplitr; · (ipureintro; rfl)
    iexact Hi
  isplitl [Hw]
  · iexists _; isplitr; · (ipureintro; rfl)
    iexact Hw
  iexists _; isplitr; · (ipureintro; rfl)
  iexact Hout

set_option maxRecDepth 4000 in
/-- The obligation, on every device. -/
theorem body_obligation (c : Dev nD) : BodyObligation (dats (F := F) m ρ 0 c) (defs₀ (F := F)) 𝒱₀ () Set.univ := fun t => by
  rw [fin_N0 t, bigSep_W0, bigSep_W0]
  simp only [owns_stg]
  exact body_run m ρ c

/-! ## The launch -/

theorem ownSemFacts : Pipeline.OwnSemFacts cfg0.spec osem := by decide

theorem share_eq (c : Dev nD) (w : Fin cfg0.W) : (dats m ρ 0 c).share w = fullShare := by unfold Dat.share; split <;> rfl

theorem kcell_injective : Function.Injective (kcell : Dev nD × Fin 7 → GSem nD τ sig) := by
  rintro ⟨c, k⟩ ⟨c', k'⟩ h
  have h1 : c = c' := congrArg (fun g : GSem nD τ sig => g.1.1) h
  subst h1
  have h2 : csem k = csem k' := congrArg Prod.snd h
  have h3 : ∀ k k' : Fin 7, csem k = csem k' → k = k' := by decide
  cases h3 k k' h2; rfl
/-- All the cells. -/
def cells : Finset (GSem nD τ sig) := Finset.univ.map ⟨kcell, kcell_injective⟩

/-- The duties that concern slot `k`, as semaphore and duty: the barrier's duty `k`, the send's and the receive's. -/
abbrev dutyKey (i : Fin 3 × Fin 3) : SemLoc sig × Fin 3 := match i.2 with
  | 0 => (.reg barS, i.1) | 1 => (.dma (sendS i.1), 0) | 2 => (.dma (recvS i.1), 0)
/-- A device's token of such a duty. -/
abbrev tokOf (i : Dev nD × Fin 3 × Fin 3) : GSem nD τ sig × ℕ × Fin 3 := (((i.1 : Thread nD τ), (dutyKey i.2).1), 0, (dutyKey i.2).2)
theorem tokOf_injective : Function.Injective (tokOf : Dev nD × Fin 3 × Fin 3 → GSem nD τ sig × ℕ × Fin 3) := by
  rintro ⟨c, i⟩ ⟨c', i'⟩ h
  have h1 : c = c' := congrArg (fun x : GSem nD τ sig × ℕ × Fin 3 => x.1.1.1) h
  subst h1
  have h2 : dutyKey i = dutyKey i' := congrArg (fun x : GSem nD τ sig × ℕ × Fin 3 => (x.1.2, x.2.2)) h
  have h3 : ∀ i i' : Fin 3 × Fin 3, dutyKey i = dutyKey i' → i = i' := by decide
  cases h3 i i' h2; rfl
def allToks : Finset (GSem nD τ sig × ℕ × Fin 3) := Finset.univ.map ⟨tokOf, tokOf_injective⟩

def u₀ : UU :=
  (initOf (Pipeline.cells cfgs cellOf_inj) (Pipeline.launchToks cfgs cellOf_inj), initOf cells allToks)

/-- The tokens of device `c`'s own cells for slot `k`. -/
def toks (k : Fin 3) (c : Dev nD) : sProp 𝕄 :=
  iprop(dutyTok ER (barCell c) 0 k ∗ dutyTok ER (sendCell k c) 0 0 ∗ dutyTok ER (recvCell k c) 0 0)

/-- What device `c` is dealt first: the state of its cells, its positions, and its own cells' tokens. -/
def G (c : Dev nD) : sProp 𝕄 :=
  iprop((bigSep Finset.univ fun k : Fin 7 => roundState ER (Rd m ρ) (kcell (c, k)) 0)
    ∗ (bigSep Finset.univ fun k : Fin 7 => iprop(atPos ER (kcell (c, k)) 0 ∅ 0 ∗ reached ER (kcell (c, k)) 0))
    ∗ bigSep Finset.univ fun k : Fin 3 => toks k c)
/-- What it holds once all are dealt: the records, its positions, and the tokens it pays with. -/
def G' (c : Dev nD) : sProp 𝕄 := iprop(∃ K, records m ρ K ∗ linear c)

omit [FloatOps F] in
theorem bigSep_three (Φ : Fin 3 → sProp 𝕄) : bigSep Finset.univ Φ = iprop(Φ 0 ∗ Φ 1 ∗ Φ 2) := bigSep_univ_eq_bigSepL [0, 1, 2] (by decide) (by decide) Φ
omit [FloatOps F] in
theorem bigSep_seven (Φ : Fin 7 → sProp 𝕄) : bigSep Finset.univ Φ = iprop(Φ 0 ∗ Φ 1 ∗ Φ 2 ∗ Φ 3 ∗ Φ 4 ∗ Φ 5 ∗ Φ 6) :=
  bigSep_univ_eq_bigSepL [0, 1, 2, 3, 4, 5, 6] (by decide) (by decide) Φ

theorem fund_cells : BI.own (ER (initOf cells allToks)) ⊢ (|==> bigSep Finset.univ (G m ρ) : sProp 𝕄) := by
  have hX (Φ : GSem nD τ sig → sProp 𝕄) : bigSep cells Φ = bigSep Finset.univ fun c : Dev nD => bigSep Finset.univ fun k : Fin 7 => Φ (kcell (c, k)) := by
    unfold cells; rw [bigSep_map, bigSep_univ_prod]; rfl
  have hT : bigSep allToks (fun x => (dutyTok ER x.1 x.2.1 x.2.2 : sProp 𝕄)) = bigSep Finset.univ fun c : Dev nD => bigSep Finset.univ fun k : Fin 3 => toks k c := by
    unfold allToks; rw [bigSep_map, bigSep_univ_prod]
    refine bigSep_congr fun c _ => ?_
    rw [bigSep_univ_prod]
    exact bigSep_congr fun k _ => by unfold toks; rw [bigSep_three]; rfl
  iintro HX
  imod (Rounds.fund ER (Rd m ρ) cells allToks) $$ HX with ⟨Hst, Hr, Hat, Htok⟩
  imodintro
  ihave Hst' := (Entails.of_eq (hX fun g => roundState ER (Rd m ρ) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

omit [FloatOps F] in
/-- The kernel's own semaphores are the sends' and the receives'; -/
theorem ownSems0_eq (c : Dev nD) : (Pipeline.ownSems0 (Ix := Unit) (Name := ℕ) (U := UU) (Lvl := ℕ) (Val := Elt F) (τ := τ) osem c : sProp 𝕄)
    = iprop(semVal (sendCell 0 c) 0 ∗ semVal (sendCell 1 c) 0 ∗ semVal (sendCell 2 c) 0
        ∗ semVal (recvCell 0 c) 0 ∗ semVal (recvCell 1 c) 0 ∗ semVal (recvCell 2 c) 0) := by
  rw [Pipeline.ownSems0_eq_of_list c osem [0, 1, 2, 3, 4, 5] (by decide) (by decide)]; rfl
omit [FloatOps F] in
/-- the barrier is the one semaphore outside the launch. -/
theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] in
theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Fin 7 => semVal (kcell (c, k)) 0 : sProp 𝕄) := by
  rw [ownSems0_eq, unscopedSems0_eq, bigSep_seven]
  iintro ⟨Hown, HB⟩
  isplitl [HB]; · iexact HB
  iexact Hown

/-- Each device opens its cells. -/
theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k => iprop(∃ κ : ℕ, cellInv ER (Rd m ρ) κ (kcell (c, k))))
          ∗ (bigSep Finset.univ fun k => iprop(atPos ER (kcell (c, k)) 0 ∅ 0 ∗ reached ER (kcell (c, k)) 0))
          ∗ bigSep Finset.univ fun k : Fin 3 => toks k c) := by
  unfold G
  iintro ⟨Hos, Hus, Hst, Hat, Htok⟩
  ihave Hv := (sems0_eq (F := F) c) $$ [Hos Hus]
  · isplitl [Hos] <;> iassumption
  imod (show iprop((bigSep Finset.univ fun k : Fin 7 => semVal (kcell (c, k)) 0) ∗ bigSep Finset.univ fun k : Fin 7 => roundState ER (Rd m ρ) (kcell (c, k)) 0)
      ⊢ (|={Set.univ}=> bigSep Finset.univ fun k => iprop(∃ κ : ℕ, cellInv ER (Rd m ρ) κ (kcell (c, k))) : sProp 𝕄) from by
        rw [← bigSep_sep']
        exact (bigSep_mono fun k _ => (Rounds.body_intro ER (Rd m ρ) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

omit [FloatOps F] in
/-- The tokens of slot `k` dealt to their payers: a barrier's to the device the slot goes to, a receive's to the one it comes from. -/
theorem toks_around (k : Fin 3) : (bigSep Finset.univ fun c : Dev nD => (toks k c : sProp 𝕄)) ⊢ bigSep Finset.univ fun c : Dev nD => payToks k c := by
  unfold toks payToks
  rw [bigSep_sep', bigSep_sep', bigSep_sep', bigSep_sep',
    bigSep_univ_equiv (rot k).symm (fun c : Dev nD => (dutyTok ER (barCell c) 0 k : sProp 𝕄)),
    bigSep_univ_equiv (rot k) (fun c : Dev nD => (dutyTok ER (recvCell k c) 0 0 : sProp 𝕄))]
  exact BI.Entails.refl _

omit [FloatOps F] in
/-- All the tokens dealt. -/
theorem deal : (bigSep Finset.univ fun c : Dev nD => bigSep Finset.univ fun k : Fin 3 => (toks k c : sProp 𝕄))
    ⊢ bigSep Finset.univ fun c : Dev nD => iprop(payToks 0 c ∗ payToks 1 c ∗ payToks 2 c) := by
  simp only [bigSep_three, bigSep_sep']
  iintro ⟨H0, H1, H2⟩
  isplitl [H0]; · iapply (toks_around (F := F) 0); iexact H0
  isplitl [H1]; · iapply (toks_around (F := F) 1); iexact H1
  iapply (toks_around (F := F) 2); iexact H2

omit [FloatOps F] in
/-- A device's positions, listed slot by slot. -/
theorem positions (c : Dev nD) : (bigSep Finset.univ fun k : Fin 7 => (atPos ER (kcell (c, k)) 0 ∅ 0 : sProp 𝕄))
    ⊢ iprop(atPos ER (barCell c) 0 ∅ 0 ∗ slotPos 0 c ∗ slotPos 1 c ∗ slotPos 2 c) := by
  rw [bigSep_seven]; unfold slotPos
  iintro ⟨HB, H0, H1, H2, R0, R1, R2⟩
  isplitl [HB]; · iexact HB
  isplitl [H0 R0]; · isplitl [H0] <;> iassumption
  isplitl [H1 R1]; · isplitl [H1] <;> iassumption
  isplitl [H2] <;> iassumption

omit [FloatOps F] in
/-- Every device's positions and tokens, together. -/
theorem linear_all : iprop((bigSep Finset.univ fun c : Dev nD => bigSep Finset.univ fun k : Fin 7 => (atPos ER (kcell (c, k)) 0 ∅ 0 : sProp 𝕄))
      ∗ bigSep Finset.univ fun c : Dev nD => iprop(payToks 0 c ∗ payToks 1 c ∗ payToks 2 c))
    ⊢ bigSep Finset.univ fun c : Dev nD => linear c := by
  rw [← bigSep_sep']
  exact bigSep_mono fun c _ => sep_mono_left (positions (F := F) c)

omit [FloatOps F] in
/-- What is known may be handed to every device. -/
theorem with_known {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

/-- The cells open on every device, all names are known to all, and the tokens are dealt. -/
theorem regroup :
    (bigSep Finset.univ fun c : Dev nD => iprop((bigSep Finset.univ fun k => iprop(∃ κ : ℕ, cellInv ER (Rd m ρ) κ (kcell (c, k))))
          ∗ (bigSep Finset.univ fun k => iprop(atPos ER (kcell (c, k)) 0 ∅ 0 ∗ reached ER (kcell (c, k)) 0))
          ∗ bigSep Finset.univ fun k : Fin 3 => toks k c) : sProp 𝕄)
      ⊢ bigSep Finset.univ (G' m ρ) := by
  rw [bigSep_sep', bigSep_sep', ← bigSep_univ_prod (fun i : Dev nD × Fin 7 => iprop(∃ κ : ℕ, cellInv ER (Rd m ρ) κ (kcell i))),
    bigSep_congr (s := Finset.univ) (fun (c : Dev nD) _ => bigSep_sep' Finset.univ (fun k : Fin 7 => (atPos ER (kcell (c, k)) 0 ∅ 0 : sProp 𝕄)) (fun k => reached ER (kcell (c, k)) 0)),
    bigSep_sep', ← bigSep_univ_prod (fun i : Dev nD × Fin 7 => (reached ER (kcell i) 0 : sProp 𝕄))]
  iintro ⟨HI, ⟨Hat, #HR⟩, Htok⟩
  ihave HK := (BI.bigSep_exists_pi Finset.univ (fun (i : Dev nD × Fin 7) (κ : ℕ) => (cellInv ER (Rd m ρ) κ (kcell i) : sProp 𝕄))) $$ HI
  icases HK with ⟨%K, #HI⟩
  ihave Htk := (deal (F := F)) $$ Htok
  iapply (with_known (R := records m ρ K) (Φ := fun c => linear c) fun c _ => (show iprop(records m ρ K ∗ linear c) ⊢ G' m ρ c from by
    unfold G'; iintro H; iexists K; iexact H))
  isplitr
  · unfold records; isplitl; · iexact HI
    iexact HR
  · iapply (linear_all (F := F))
    isplitl [Hat] <;> iassumption

/-- The whole launch's step. -/
theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

omit [FloatOps F] in
/-- The credit the devices' debts leave device `c`. -/
theorem creds (c : Dev nD) : (Pipeline.launchCred O₀ c : sProp 𝕄) ⊢ credits c := by
  have hr (k : Fin 3) : (Pipeline.launchCred (fun d => owedRecv k d) c : sProp 𝕄) ⊢ cred (tallyAt (recvCell k c) () N) :=
    Pipeline.launchCred_tallyAt (.dma (recvS k)) (dest k) (orig k) (dest_orig k) (orig_dest k) () N c
  have hb (k : Fin 3) : (Pipeline.launchCred (fun d => owedBar k d) c : sProp 𝕄) ⊢ cred (tallyAt (barCell c) () 1) :=
    Pipeline.launchCred_tallyAt (.reg barS) (orig k) (dest k) (orig_dest k) (dest_orig k) () 1 c
  rw [show (O₀ : Dev nD → CellTallies nD τ sig Unit)
      = fun d => owedRecv 2 d + owedRecv 0 d + owedRecv 1 d + owedBar 0 d + owedBar 1 d + owedBar 2 d from rfl,
    Pipeline.launchCred_add, Pipeline.launchCred_add, Pipeline.launchCred_add, Pipeline.launchCred_add, Pipeline.launchCred_add]
  unfold credits
  iintro ⟨⟨⟨⟨⟨R2, R0⟩, R1⟩, B0⟩, B1⟩, B2⟩
  isplitl [B0 B1 B2]
  · rw [show (tallyAt (barCell c) () 3 : CellTallies nD τ sig Unit) = tallyAt (barCell c) () 1 + (tallyAt (barCell c) () 1 + tallyAt (barCell c) () 1) by
      rw [tallyAt_add, tallyAt_add]]
    iapply (cred_add _ _).2
    isplitl [B0]; · iapply (hb 0); iexact B0
    iapply (cred_add _ _).2
    isplitl [B1]; · iapply (hb 1); iexact B1
    iapply (hb 2); iexact B2
  isplitl [R0]; · iapply (hr 0); iexact R0
  isplitl [R1]; · iapply (hr 1); iexact R1
  iapply (hr 2); iexact R2

/-! ## The run -/

/-- The argument the kernel does not use, as at launch. -/
abbrev unused (c : Dev nD) : sProp 𝕄 := ((c : Thread nD τ).loc main_arg1) ↦{fullShare} m ((c : Thread nD τ).loc main_arg1)

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ unused m c) := by
  rw [Pipeline.unscopedRestP_none, unscopedRest0_eq]
  iintro ⟨Hu, Hlev, Hcr, -, HG⟩
  ihave Hc := (creds (F := F) c) $$ Hcr
  imodintro
  unfold start G'
  isplitl [Hlev Hc HG]
  · isplitl [HG]; · iexact HG
    isplitl [Hc] <;> iassumption
  iexact Hu

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀
  iintro ⟨Hs, -, Hr⟩
  isplitl [Hs] <;> iassumption

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ (F := F) c from rfl, scopedRest0_eq, ownSems0_eq, unscopedSems0_eq]
  unfold Φ₁ zeros
  iintro ⟨Hr, HB, ⟨S0, S1, S2⟩, HR⟩
  isplitl [HB]; · iexact HB
  isplitl [S0 S1 S2 HR]
  · isplitl [S0]; · iexact S0
    isplitl [S1]; · iexact S1
    isplitl [S2] <;> iassumption
  iexact Hr

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> rfl) _ (by
      rcases t with ⟨_ | _, ht⟩
      · exact Or.inl rfl
      · exact Or.inr rfl)

/-- Reading off the end state: the barrier at zero, the unused argument as at launch. -/
theorem read_rest (c : Dev nD) (s' : Phys nD τ sig (Elt F)) :
    iprop(unscopedSems0 c ∗ unused m c ∗ SI s') ⊢ (|={Set.univ}=> iprop(⌜(∀ sm : SemLoc sig, sm.isScoped .tc = false → s'.mem.sem ((c.tc : Thread nD τ), sm) = 0)
      ∧ s'.mem.mem ((c : Thread nD τ).loc main_arg1) = m ((c : Thread nD τ).loc main_arg1)⌝ ∗ SI s') : sProp 𝕄) := by
  iintro ⟨Hu, Ha, HSI⟩
  icombine HSI Ha gives %h
  imod (Pipeline.unscopedSems0_read (X := unscopedSems0 c) (c := c) fupd_intro s') $$ [Hu HSI] with ⟨%hz, HSI⟩
  · isplitl [Hu] <;> iassumption
  imodintro
  isplitr; · ipureintro; exact ⟨hz, Buf.eq_of_forall_mem_univ h⟩
  iexact HSI

/-- The arrays after the run. -/
def finalA (c : Dev nD) (w : Fin cfg0.W) : Buf (Elt F) ((cfg0.win w).arr.view.loc (c : Thread nD τ)) := (dats m ρ 0 c).arrAt w cfg0.N

/-- What holds after the run: the arrays at `finalA`, the unused argument as at launch. -/
def Ends (r : PUnit × MemSt nD τ sig (Elt F)) : Prop :=
  ∀ c : Dev nD, (∀ w : Fin cfg0.W, r.2.mem ((cfg0.win w).arr.view.loc (c : Thread nD τ)) = finalA m ρ c w)
    ∧ r.2.mem ((c : Thread nD τ).loc main_arg1) = m ((c : Thread nD τ).loc main_arg1)

set_option maxRecDepth 8000 in
/-- On four devices, for any float values, from any memory with zero counters: every run ends, and ends with the arrays at
    `finalA`, the unused argument kept and every counter at zero. -/
theorem run_main : θ_run defs (onTc (τ := τ) (main (F := F))) (s₀ m ρ) (fun r => Ends m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := block_pos0) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_cells m ρ) $$ HX with HG
      imodintro
      isplitl [HP] <;> iassumption)
    (hglob := glob m ρ)
    (hA := fun _ _ => rfl) (hpf := fun _ k => k.elim0)
    (X := start m ρ) (Y := fun c => unscopedSems0 c) (Z := unused m)
    (hX := start_intro m ρ) (hin := phi0_intro m ρ) (hout := phi1_exit m ρ)
    (QY := fun c s => (∀ sm : SemLoc sig, sm.isScoped .tc = false → s.sem ((c.tc : Thread nD τ), sm) = 0)
      ∧ s.mem ((c : Thread nD τ).loc main_arg1) = m ((c : Thread nD τ).loc main_arg1))
    (hY := read_rest m)
    (hQ := fun _ h hs => ⟨fun c => ⟨(h c).1, (h c).2.2.2⟩, sem_eq_zero hs fun c => (h c).2.2.1⟩)

/-- The operands' arrays after the run hold what they held. -/
theorem finalA_in (c : Dev nD) (w : Fin cfg0.W) (hw : (cfg0.win w).isOut = false) :
    finalA m ρ c w = (s₀ m ρ).mem ((cfg0.win w).arr.view.loc (c : Thread nD τ)) :=
  (dats (F := F) m ρ 0 c).arrAt_in w hw _

end Cert.MoE
-- ==== Proof.Run.lean ====
/-
The run read at the arrays: each device's result array ends at `out`, its arguments as they were; and the two frame claims
of the kernel, at the machine's floats and over the extended reals.
-/
module

public import proofs.«01_k».proof.Proof.Launch
public import Idealize.ShloMosaic.Lib.Pipeline.Value
public import proofs.«01_k».proof.Defs
public import proofs.«01_k».proof.Proof.Gen.Kernel
public import proofs.«01_k».proof.Proof.Gen.KernelIdeal.Points

@[expose] public section

noncomputable section

namespace Cert.MoE

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The arrays -/

/-- The operands' blocks are the arrays themselves. -/
theorem xs_eq (c : Dev nD) : xs m ρ c = m ((c : Thread nD τ).loc main_arg0) :=
  Memref.read_access_unit_zero (Elt F) main_arg0 (funext fun a => Nat.zero_mul _) (fun a => by show 0 * _ + _ ≤ _; rw [Nat.zero_mul, Nat.zero_add]) (m ((c : Thread nD τ).loc main_arg0))
theorem ids_eq (c : Dev nD) : ids m ρ c = m ((c : Thread nD τ).loc main_arg2) :=
  Memref.read_access_unit_zero (Elt F) main_arg2 (funext fun a => Nat.zero_mul _) (fun a => by show 0 * _ + _ ≤ _; rw [Nat.zero_mul, Nat.zero_add]) (m ((c : Thread nD τ).loc main_arg2))
theorem ws_eq (c : Dev nD) : ws m ρ c = m ((c : Thread nD τ).loc main_arg3) :=
  Memref.read_access_unit_zero (Elt F) main_arg3 (funext fun a => Nat.zero_mul _) (fun a => by show 0 * _ + _ ≤ _; rw [Nat.zero_mul, Nat.zero_add]) (m ((c : Thread nD τ).loc main_arg3))

/-- What the run writes back is `out`, -/
theorem flushed_out (c : Dev nD) (t : Fin cfg0.N) :
    (dats m ρ 0 c).flushed 3 t = (win0_3.blk t).view.read (Elt F) (out m ρ c) :=
  (Memref.read_access_unit_zero (Elt F) main_v1 (funext fun a => Nat.zero_mul _) (fun a => by show 0 * _ + _ ≤ _; rw [Nat.zero_mul, Nat.zero_add]) (out m ρ c)).symm

/-- over the whole array. -/
theorem cover_out (i : S128x512.Idx) : ∃ t : Fin cfg0.N, (cfg0.win 3).flush t = true ∧ i ∈ ((cfg0.win 3).blk t).view.set := by
  refine ⟨t₀, flush0_3 _, ?_⟩
  show i ∈ ((View.whole main_v1).slice (win0_3.rect t₀)).set
  rw [View.set_slice_whole, Rect.mem_set_unit]
  intro a
  exact ⟨by show 0 * _ ≤ _; rw [Nat.zero_mul]; exact Nat.zero_le _, by show _ < 0 * _ + _; rw [Nat.zero_mul, Nat.zero_add]; exact (i a).isLt⟩

/-- The result array after the run holds `out`. -/
theorem final_out (c : Dev nD) : finalA m ρ c 3 = out m ρ c :=
  (dats m ρ 0 c).arrAt_eq_of_cover 3 (out m ρ c) (fun t _ => flushed_out m ρ c t) cover_out

/-! ## The run, array by array -/

/-- After the run device `c`'s arguments are as at launch. -/
def Kept (c : Dev nD) (s : MemSt nD τ sig (Elt F)) : Prop :=
  s.mem ((c : Thread nD τ).loc main_arg0) = m ((c : Thread nD τ).loc main_arg0)
    ∧ s.mem ((c : Thread nD τ).loc main_arg1) = m ((c : Thread nD τ).loc main_arg1)
    ∧ s.mem ((c : Thread nD τ).loc main_arg2) = m ((c : Thread nD τ).loc main_arg2)
    ∧ s.mem ((c : Thread nD τ).loc main_arg3) = m ((c : Thread nD τ).loc main_arg3)

/-- Every run ends with each device's result at `out`, its arguments kept, and every counter at zero. -/
theorem run_kernel : θ_run defs (onTc (τ := τ) (main (F := F))) (s₀ m ρ)
    (fun r => (∀ c : Dev nD, r.2.mem ((c : Thread nD τ).loc main_v1) = out m ρ c ∧ Kept m c r.2) ∧ r.2.sem = fun _ => 0) :=
  (θ_run defs _ _).mono (fun r h => ⟨fun c => ⟨((h.1 c).1 3).trans (final_out m ρ c),
      ((h.1 c).1 0).trans (finalA_in m ρ c 0 rfl), (h.1 c).2, ((h.1 c).1 1).trans (finalA_in m ρ c 1 rfl), ((h.1 c).1 2).trans (finalA_in m ρ c 2 rfl)⟩, h.2⟩)
    (run_main m ρ)

end Cert.MoE

namespace Cert.MoE

open Idealize.ShloMosaic Idealize.SL.Sem

/-- Every run ends with the arguments kept and every counter at zero. -/
theorem run_frame {F : FTy → Type} [FloatOps F] (m : (ℓ : Loc Cert.KernelIdeal.nD Cert.KernelIdeal.τ Cert.KernelIdeal.sig) → Buf (Elt F) ℓ)
    (ρ : Dev Cert.KernelIdeal.nD → PrngReg) :
    θ_run Cert.KernelIdeal.defs (onTc (τ := Cert.KernelIdeal.τ) (Cert.KernelIdeal.main (F := F))) ⟨m, fun _ => 0, ρ⟩
      (fun r => (∀ c : Dev Cert.KernelIdeal.nD, Kept m c r.2) ∧ r.2.sem = fun _ => 0) :=
  (θ_run Cert.KernelIdeal.defs _ _).mono (fun _ h => ⟨fun c => (h.1 c).2, h.2⟩) (run_kernel m ρ)

/-- The two printings of the kernel have the same bodies, -/
theorem bodies_same {F : FTy → Type} [FloatOps F] : Cert.Kernel.defs₀ (F := F) = Cert.KernelIdeal.defs₀ (F := F) := by
  unfold Cert.Kernel.defs₀ Cert.KernelIdeal.defs₀
  refine congrArg Defs.onTc (funext fun l => funext fun a => ?_)
  match l, a with
  | 0, (t, s) => rfl

/-- and so the same tables. -/
theorem tables_same {F : FTy → Type} [FloatOps F] : Cert.Kernel.defs (F := F) = Cert.KernelIdeal.defs (F := F) := by
  unfold Cert.Kernel.defs Cert.KernelIdeal.defs
  rw [bodies_same]; rfl

/-- So the kernel at the machine's floats runs, keeps its arguments and ends with every counter at zero; -/
theorem frame_kernel : Cert.quiescent_Kernel := fun m ρ _ => by
  rw [tables_same]
  exact run_frame (F := Bits) m ρ

/-- and so over the extended reals. -/
theorem frame_kernelIdeal : Cert.quiescent_KernelIdeal := fun m ρ _ => run_frame (F := Ideal) m ρ

end Cert.MoE
-- ==== Proof.Reference.lean ====
/-
The reference runs to its end and keeps its arguments.
-/
module

public import proofs.«01_k».proof.Defs
public import proofs.«01_k».proof.Proof.Gen.ReferenceIdeal
public import proofs.«01_k».proof.Proof.Gen.ReferenceIdeal.Run
public import Idealize.ShloMosaic.Lib.Claim

@[expose] public section

noncomputable section

namespace Cert.MoE

open Idealize.ShloMosaic

/-- The reference runs to its end from every memory, leaves its four argument arrays as they were, and ends with every
    counter at zero, because it declares none. -/
theorem frame_reference : Cert.quiescent_ReferenceIdeal := by
  intro m ρ _
  exact (θ_run Cert.ReferenceIdeal.defs _ _).mono
    (fun r h => ⟨fun c => (h c).2, sem_eq_zero_of_no_sems (by decide) r.2⟩)
    (Cert.ReferenceIdeal.Value.run (F := Ideal) m ρ)

end Cert.MoE

end
-- ==== Proof.Served.lean ====
/-
The problem's mathematics: which expert serves a token, and the row the token gets. The experts are numbered 0 to 15; an
expert serves the first 25 of the tokens that chose it and drops the others, whose rows are zero.
-/
module

public import Idealize.ShloMosaic.Lib.Pointwise
public import Idealize.ShloMosaic.Lib.WordCmp

@[expose] public section

noncomputable section

namespace Cert.MoE

open Idealize.ShloMosaic

/-- The word each token chose its expert by, the tokens, and the experts' weights. -/
abbrev Choice := IVec ⟨2, ![512, 1]⟩ 32
abbrev Tokens := FVec Ideal ⟨2, ![512, 256]⟩ .bf16
abbrev Weights := FVec Ideal ⟨3, ![16, 256, 512]⟩ .bf16

/-- How many tokens before `t` made the same choice as `t`. -/
def earlier (i : Choice) (t : Fin 512) : ℕ :=
  (Finset.univ.filter fun s : Fin 512 => s < t ∧ i (ix2 s 0) = i (ix2 t 0)).card

/-- Expert `e` serves token `t`: the token chose it and is among the first 25 that did. -/
def Served (i : Choice) (t : Fin 512) (e : Fin 16) : Prop :=
  i (ix2 t 0) = BitVec.ofNat 32 e.val ∧ earlier i t < 25

instance (i : Choice) (t : Fin 512) (e : Fin 16) : Decidable (Served i t e) := by unfold Served; infer_instance

/-- Entry `f` of token `t` times the weights of expert `e`. -/
def expertRow (x : Tokens) (W : Weights) (t : Fin 512) (e : Fin 16) (f : Fin 512) : EReal :=
  ∑ d : Fin 256, x (ix2 t d) * W (ix3 e d f)

/-- Entry `f` of what expert `e` gives token `t`: its row where it serves the token, else zero. -/
def given (x : Tokens) (i : Choice) (W : Weights) (t : Fin 512) (f : Fin 512) (e : Fin 16) : EReal :=
  if Served i t e then expertRow x W t e f else 0

/-- Entry `f` of token `t`'s row: what the experts give it. -/
def moe (x : Tokens) (i : Choice) (W : Weights) (t f : Fin 512) : EReal := ∑ e : Fin 16, given x i W t f e

/-- Different experts are chosen by different words. -/
theorem word_inj {e e' : Fin 16} (h : BitVec.ofNat 32 e.val = BitVec.ofNat 32 e'.val) : e = e' := by
  revert e e'; decide

/-- A token is served by one expert at most. -/
theorem Served.unique {i : Choice} {t : Fin 512} {e e' : Fin 16} (h : Served i t e) (h' : Served i t e') : e = e' :=
  word_inj (h.1.symm.trans h'.1)

/-- The row of a token that `e` serves is its product with `e`'s weights, -/
theorem moe_served {i : Choice} {t : Fin 512} {e : Fin 16} (h : Served i t e) (x : Tokens) (W : Weights) (f : Fin 512) :
    moe x i W t f = expertRow x W t e f := by
  refine (Finset.sum_eq_single e (fun e' _ hne => if_neg fun h' => hne (h'.unique h)) fun hn => absurd (Finset.mem_univ e) hn).trans (if_pos h)

/-- and of a token that no expert serves, zero. -/
theorem moe_dropped {i : Choice} {t : Fin 512} (h : ∀ e, ¬ Served i t e) (x : Tokens) (W : Weights) (f : Fin 512) :
    moe x i W t f = 0 :=
  Finset.sum_eq_zero fun e _ => if_neg (h e)

/-- A truth value as a number: a bit widened to a word and converted. -/
theorem flag (φ : FTy) (b : Bool) :
    FloatOps.sitofp (F := Ideal) φ (BitVec.setWidth 32 (BitVec.ofBool b)) = if b then 1 else 0 := by
  cases b
  · show (((BitVec.setWidth 32 (BitVec.ofBool false)).toInt : ℝ) : EReal) = 0
    rw [show (BitVec.setWidth 32 (BitVec.ofBool false)).toInt = 0 from rfl]; norm_num
  · show (((BitVec.setWidth 32 (BitVec.ofBool true)).toInt : ℝ) : EReal) = 1
    rw [show (BitVec.setWidth 32 (BitVec.ofBool true)).toInt = 1 from rfl]; norm_num

end Cert.MoE

end
-- ==== Proof.Counts.lean ====
/-
What one device computes before its products: which tokens are kept, and the masked tokens side by side, one block of
columns for each of the device's four experts.
-/
module

public import proofs.«01_k».proof.Proof.Protocol
public import proofs.«01_k».proof.Proof.Served

@[expose] public section

set_option maxRecDepth 16384

noncomputable section

namespace Cert.MoE

open Idealize.ShloMosaic Cert.KernelIdeal Cert.KernelIdeal.Gen

/-- The constant 25. -/
theorem ofBits_cap : Ideal.ofBits .f32 0x41C80000#32 = ((25 : ℕ) : EReal) := by
  rw [← EReal.coe_coe_eq_natCast]
  simp [Ideal.ofBits, Ideal.ieee, -EReal.coe_mul]; norm_num

/-- How many tokens up to and including `t` chose expert `e`. -/
def reached (i : Choice) (t : Fin 512) (e : Fin 16) : ℕ :=
  (Finset.univ.filter fun s : Fin 512 => s ≤ t ∧ i (ix2 s 0) = BitVec.ofNat 32 e.val).card

/-- Of the expert that token `t` chose, that is the tokens before `t` and `t` itself. -/
theorem reached_eq {i : Choice} {t : Fin 512} {e : Fin 16} (h : i (ix2 t 0) = BitVec.ofNat 32 e.val) :
    reached i t e = earlier i t + 1 := by
  have hs : (Finset.univ.filter fun s : Fin 512 => s ≤ t ∧ i (ix2 s 0) = BitVec.ofNat 32 e.val)
      = insert t (Finset.univ.filter fun s : Fin 512 => s < t ∧ i (ix2 s 0) = i (ix2 t 0)) := by
    ext s
    simp only [Finset.mem_filter, Finset.mem_univ, true_and, Finset.mem_insert, h]
    constructor
    · rintro ⟨h1, h2⟩
      exact (eq_or_lt_of_le h1).imp id fun h3 => ⟨h3, h2⟩
    · rintro (rfl | ⟨h1, h2⟩)
      · exact ⟨le_rfl, h⟩
      · exact ⟨h1.le, h2⟩
  unfold reached earlier
  rw [hs, Finset.card_insert_of_notMem (by simp)]

/-- The one-hot rows: token `t` has a one at the expert it chose. -/
theorem onehot_at (i : Choice) (t : Fin 512) (e : Fin 16) :
    k0_pay3 (F := Ideal) i (ix2 t e) = if i (ix2 t 0) = BitVec.ofNat 32 e.val then 1 else 0 := by
  pointwise [k0_pay3, k0_pay2]
  rw [WordCmp.cmpi_eq_eq, flag]
  simp only [decide_eq_true_eq]

/-- The triangle's product with the one-hot rows counts the tokens up to `t` that chose `e`. -/
theorem count_at (i : Choice) (t : Fin 512) (e : Fin 16) :
    (∑ s : Fin 512, FloatOps.sitofp (F := Ideal) .f32 (BitVec.setWidth 32 (IntOp.cmpi .sle (BitVec.ofNat 32 s.val) (BitVec.ofNat 32 t.val)))
      * k0_pay3 (F := Ideal) i (ix2 s e)) = ((reached i t e : ℕ) : EReal) := by
  have h : ∀ s : Fin 512, FloatOps.sitofp (F := Ideal) .f32 (BitVec.setWidth 32 (IntOp.cmpi .sle (BitVec.ofNat 32 s.val) (BitVec.ofNat 32 t.val)))
      * k0_pay3 (F := Ideal) i (ix2 s e) = if s ≤ t ∧ i (ix2 s 0) = BitVec.ofNat 32 e.val then 1 else 0 := by
    intro s
    rw [WordCmp.cmpi_sle_ofNat (by have := s.isLt; omega) (by have := t.isLt; omega), flag, onehot_at, ite_and]
    by_cases h1 : s.val ≤ t.val
    · rw [if_pos (by simpa using h1), if_pos (Fin.le_def.2 h1), one_mul]
    · rw [if_neg (by simpa using h1), if_neg (fun h2 => h1 (Fin.le_def.1 h2)), zero_mul]
  rw [Finset.sum_congr rfl fun s _ => h s, Finset.sum_boole]
  rfl

/-- The kernel's test of the count against 25. -/
theorem within_at (i : Choice) (t : Fin 512) (e : Fin 16) :
    k0_pay4 (F := Ideal) i (ix2 t e) = BitVec.setWidth 32 (BitVec.ofBool (decide (reached i t e ≤ 25))) := by
  pointwise [k0_pay4]
  rw [count_at, ofBits_cap]
  simp only [EReal.natCast_le_iff]

/-- Token `t` is kept: the number is one where some expert serves it, else zero. -/
theorem keep_at (i : Choice) (t : Fin 512) :
    k0_pay5 (F := Ideal) (k0_pay3 i) (k0_pay4 (F := Ideal) i) (ix2 t 0) = if ∃ e, Served i t e then 1 else 0 := by
  pointwise [k0_pay5]
  have h : ∀ e : Fin 16, k0_pay3 (F := Ideal) i (ix2 t e) * FloatOps.sitofp (F := Ideal) .f32 (k0_pay4 (F := Ideal) i (ix2 t e))
      = if Served i t e then 1 else 0 := by
    intro e
    rw [within_at, flag, onehot_at]
    by_cases h1 : i (ix2 t 0) = BitVec.ofNat 32 e.val
    · rw [if_pos h1, one_mul, reached_eq h1]
      by_cases h2 : earlier i t < 25
      · rw [if_pos (by simpa using h2), if_pos ⟨h1, h2⟩]
      · rw [if_neg (by simpa using h2), if_neg fun h3 => h2 h3.2]
    · rw [if_neg h1, zero_mul, if_neg fun h3 => h1 h3.1]
  rw [Finset.sum_congr rfl fun e _ => h e]
  by_cases hs : ∃ e, Served i t e
  · obtain ⟨e, he⟩ := hs
    rw [if_pos ⟨e, he⟩, Finset.sum_eq_single e (fun e' _ hne => if_neg fun h' => hne (h'.unique he)) fun hn => absurd (Finset.mem_univ e) hn, if_pos he]
  · rw [if_neg hs]
    exact Finset.sum_eq_zero fun e _ => if_neg fun h' => hs ⟨e, h'⟩

/-- Kept, and chosen expert `e`: served by `e`. -/
theorem select_at (i : Choice) (t : Fin 512) (e : Fin 16) {w : BitVec 32} (hw : w = BitVec.ofNat 32 e.val) :
    k0_pay5 (F := Ideal) (k0_pay3 i) (k0_pay4 (F := Ideal) i) (ix2 t 0)
      * FloatOps.sitofp (F := Ideal) .f32 (BitVec.setWidth 32 (IntOp.cmpi .eq (i (ix2 t 0)) w)) = if Served i t e then 1 else 0 := by
  subst hw
  rw [keep_at, WordCmp.cmpi_eq_eq, flag]
  simp only [decide_eq_true_eq]
  by_cases h1 : i (ix2 t 0) = BitVec.ofNat 32 e.val
  · rw [if_pos h1, mul_one]
    refine if_congr ⟨?_, fun h => ⟨e, h⟩⟩ rfl rfl
    rintro ⟨e', h'⟩
    exact ⟨h1, h'.2⟩
  · rw [if_neg h1, mul_zero, if_neg fun h3 => h1 h3.1]

/-- Expert `j` of device `c`. -/
def expertOf (c : Dev nD) (j : Fin 4) : Fin 16 := ⟨4 * c.val + j.val, by have := c.isLt; have := j.isLt; change c.val < 4 at *; omega⟩

/-- Its word, as the device computes it. -/
theorem word_of (c : Dev nD) :
    Scalar.addi (Scalar.muli (devWord c) 4#32) 0#32 = BitVec.ofNat 32 (expertOf c 0).val
    ∧ Scalar.addi (Scalar.muli (devWord c) 4#32) 1#32 = BitVec.ofNat 32 (expertOf c 1).val
    ∧ Scalar.addi (Scalar.muli (devWord c) 4#32) 2#32 = BitVec.ofNat 32 (expertOf c 2).val
    ∧ Scalar.addi (Scalar.muli (devWord c) 4#32) 3#32 = BitVec.ofNat 32 (expertOf c 3).val := by
  revert c; decide

/-- Column `256 j + d` of the masked tokens on device `c`: entry `d` of the token where the device's expert `j` serves it. -/
theorem cat_at (c : Dev nD) (i : Choice) (x : Tokens) (t : Fin 512) (j : Fin 4) (d : Fin 256) (k : Fin 1024)
    (hk : k.val = 256 * j.val + d.val) :
    cat (F := Ideal) (devWord c) i x (ix2 t k) = x (ix2 t d) * if Served i t (expertOf c j) then 1 else 0 := by
  obtain ⟨w0, w1, w2, w3⟩ := word_of c
  have hd := d.isLt
  pointwise [cat, k0_pay7, k0_pay8, k0_pay9, k0_pay10, k0_pay11, k0_pay6, k0_pay2]
  rw [select_at i t _ w0, select_at i t _ w1, select_at i t _ w2, select_at i t _ w3]
  fin_vals j with hj
  · rw [show j = 0 from Fin.ext hj, dif_pos (by omega)]
    congr 3; exact Fin.ext (by show k.val = _; omega)
  · rw [show j = 1 from Fin.ext hj, dif_neg (by omega), dif_pos (by omega)]
    congr 3; exact Fin.ext (by show k.val - 256 = _; omega)
  · rw [show j = 2 from Fin.ext hj, dif_neg (by omega), dif_neg (by omega), dif_pos (by omega)]
    congr 3; exact Fin.ext (by show k.val - 256 - 256 = _; omega)
  · rw [show j = 3 from Fin.ext hj, dif_neg (by omega), dif_neg (by omega), dif_neg (by omega)]
    congr 3; exact Fin.ext (by show k.val - 256 - 256 - 256 = _; omega)

end Cert.MoE

end
-- ==== Proof.Shares.lean ====
/-
What one device's products are, and what the devices' shares add up to: device `c`'s share of a token's row is what its
four experts give the token, and the four devices' shares of it are the row. Then the device's result, which adds its own
share and the three that it received, is the rows of its block of tokens.
-/
module

public import proofs.«01_k».proof.Proof.Run
public import proofs.«01_k».proof.Proof.Counts
public import Idealize.ShloMosaic.Lib.Layout

@[expose] public section

set_option maxRecDepth 16384

noncomputable section

namespace Cert.MoE

open Idealize.ShloMosaic Idealize.ShloMosaic.TcCoe Cert.KernelIdeal Cert.KernelIdeal.Gen

/-- A sum over 1024 columns, block by block. -/
theorem sum_columns (g : Fin 1024 → EReal) :
    (∑ k : Fin 1024, g k) = ∑ j : Fin 4, ∑ d : Fin 256, g ⟨256 * j.val + d.val, by have := j.isLt; have := d.isLt; omega⟩ := by
  rw [← (finProdFinEquiv (m := 4) (n := 256)).sum_comp g, Fintype.sum_prod_type]
  refine Finset.sum_congr rfl fun j _ => Finset.sum_congr rfl fun d _ => congrArg g (Fin.ext ?_)
  show d.val + 256 * j.val = 256 * j.val + d.val
  omega

/-- A sum over the 16 experts, device by device. -/
theorem sum_experts (g : Fin 16 → EReal) : (∑ e : Fin 16, g e) = ∑ c : Dev nD, ∑ j : Fin 4, g (expertOf c j) := by
  rw [← (finProdFinEquiv (m := 4) (n := 4)).sum_comp g, Fintype.sum_prod_type]
  refine Finset.sum_congr rfl fun c _ => Finset.sum_congr rfl fun j _ => congrArg g (Fin.ext ?_)
  show j.val + 4 * c.val = 4 * c.val + j.val
  omega

/-- Device `c`'s share of token `t`'s row at `f`: what its own experts give the token. -/
def share (x : Tokens) (i : Choice) (W : Weights) (c : Dev nD) (t f : Fin 512) : EReal :=
  ∑ j : Fin 4, given x i W t f (expertOf c j)

/-- The shares of the four devices, in the order in which a device adds them up, are the row. -/
theorem shares_sum (x : Tokens) (i : Choice) (W : Weights) (t f : Fin 512) (c : Dev nD) :
    share x i W c t f + ((share x i W (orig 0 c) t f + share x i W (orig 1 c) t f) + share x i W (orig 2 c) t f) = moe x i W t f := by
  unfold moe
  rw [sum_experts]
  show _ = ∑ c : Fin 4, share x i W c t f
  generalize share x i W = s
  rw [Fin.sum_univ_four]
  have h : ∀ c : Dev nD, (c = 0 ∧ orig 0 c = 3 ∧ orig 1 c = 2 ∧ orig 2 c = 1) ∨ (c = 1 ∧ orig 0 c = 0 ∧ orig 1 c = 3 ∧ orig 2 c = 2)
      ∨ (c = 2 ∧ orig 0 c = 1 ∧ orig 1 c = 0 ∧ orig 2 c = 3) ∨ (c = 3 ∧ orig 0 c = 2 ∧ orig 1 c = 1 ∧ orig 2 c = 0) := by decide
  rcases h c with ⟨h0, h1, h2, h3⟩ | ⟨h0, h1, h2, h3⟩ | ⟨h0, h1, h2, h3⟩ | ⟨h0, h1, h2, h3⟩ <;> rw [h1, h2, h3, h0] <;> ac_rfl

/-- The product of rows of masked tokens with the device's weights: at row `r`, where the rows hold token `t`, the
    device's share of the token's row. -/
theorem product_at (c : Dev nD) (x : Tokens) (i : Choice) (W : Weights) (t f : Fin 512)
    (w : Vec Ideal S4x256x512 .bf16) (hw : ∀ j d, w (ix3 j d f) = W (ix3 (expertOf c j) d f))
    (rows : Vec Ideal S128x1024 .bf16) (r : Fin 128)
    (hr : ∀ k : Fin 1024, rows (ix2 r k) = cat (F := Ideal) (devWord c) i x (ix2 t k)) :
    (∑ k : Fin 1024, rows (ix2 r k) * k0_pay12 (F := Ideal) w (ix2 k f)) = share x i W c t f := by
  rw [sum_columns]
  refine Finset.sum_congr rfl fun j _ => ?_
  have h : ∀ d : Fin 256, rows (ix2 r ⟨256 * j.val + d.val, by have := j.isLt; have := d.isLt; omega⟩)
      * k0_pay12 (F := Ideal) w (ix2 ⟨256 * j.val + d.val, by have := j.isLt; have := d.isLt; omega⟩ f)
      = if Served i t (expertOf c j) then x (ix2 t d) * W (ix3 (expertOf c j) d f) else 0 := by
    intro d
    have hd := d.isLt
    have hj := j.isLt
    rw [hr, cat_at c i x t j d _ rfl]
    have hp : k0_pay12 (F := Ideal) w (ix2 ⟨256 * j.val + d.val, by omega⟩ f) = w (ix3 j d f) := by
      pointwise [k0_pay12]
    rw [hp, hw, mul_ite, mul_one, mul_zero, ite_mul, zero_mul]
  rw [Finset.sum_congr rfl fun d _ => h d]
  unfold given expertRow
  split_ifs
  · rfl
  · exact Finset.sum_const_zero

/-! ## The result -/

variable (m : (ℓ : Loc nD τ sig) → Buf (Elt Ideal) ℓ) (ρ : Dev nD → PrngReg)

/-- Token `r` of device `c`'s block. -/
def tokenOf (c : Dev nD) (r : Fin 128) : Fin 512 := ⟨128 * c.val + r.val, by have := c.isLt; have := r.isLt; change c.val < 4 at *; omega⟩

/-- Where the rows for device `c`'s block begin, on the device that sends them in slot `k` and on `c` itself. -/
theorem begin_sent : ∀ (c : Dev nD) (k : Fin 3), k0_off1 (orig k c) (BitVec.ofNat 32 (1 + k.val)) 0 = 128 * c.val
    ∧ k0_off1 (orig k c) (BitVec.ofNat 32 (1 + k.val)) 1 = 0 := by decide
theorem begin_own : ∀ c : Dev nD, k0_off2 c 0 = 128 * c.val ∧ k0_off2 c 1 = 0 := by decide

/-- Row `r` of what is sent to `c` in slot `k` is the sender's masked token `r` of `c`'s block, -/
theorem sentRows_at (c : Dev nD) (k : Fin 3) (r : Fin 128) (l : Fin 1024) :
    sentRows m ρ k (orig k c) (ix2 r l) = xcat m ρ (orig k c) (ix2 (tokenOf c r) l) := by
  obtain ⟨h0, h1⟩ := begin_sent c k
  refine congrArg (xcat m ρ (orig k c)) (funext fun a => Fin.ext ?_)
  match a with
  | ⟨0, _⟩ => show k0_off1 (orig k c) (BitVec.ofNat 32 (1 + k.val)) 0 + 1 * r.val = 128 * c.val + r.val; omega
  | ⟨1, _⟩ => show k0_off1 (orig k c) (BitVec.ofNat 32 (1 + k.val)) 1 + 1 * l.val = l.val; omega

/-- and of what `c` keeps, its own. -/
theorem ownRows_at (c : Dev nD) (r : Fin 128) (l : Fin 1024) :
    ownRows m ρ c (ix2 r l) = xcat m ρ c (ix2 (tokenOf c r) l) := by
  obtain ⟨h0, h1⟩ := begin_own c
  refine congrArg (xcat m ρ c) (funext fun a => Fin.ext ?_)
  match a with
  | ⟨0, _⟩ => show k0_off2 c 0 + 1 * r.val = 128 * c.val + r.val; omega
  | ⟨1, _⟩ => show k0_off2 c 1 + 1 * l.val = l.val; omega

variable (x : Tokens) (i : Choice) (W : Weights)

/-- Every device holds the tokens, their choices and its own four experts' weights. -/
structure Holds : Prop where
  tokens : ∀ c : Dev nD, m ((c.tc : Thread nD τ).loc main_arg0) = x
  choice : ∀ c : Dev nD, m ((c.tc : Thread nD τ).loc main_arg2) = i
  weights : ∀ (c : Dev nD) (j : Fin 4) (d : Fin 256) (f : Fin 512),
    (m ((c.tc : Thread nD τ).loc main_arg3) : FVec Ideal S4x256x512 .bf16) (ix3 j d f) = W (ix3 (expertOf c j) d f)

variable {m x i W}

/-- The masked tokens of a device are those of the tokens and choices that it holds. -/
theorem xcat_eq (h : Holds m x i W) (c : Dev nD) : xcat m ρ c = cat (F := Ideal) (devWord c) i x := by
  unfold xcat
  rw [xs_eq, ids_eq, h.tokens, h.choice]

/-- Its weights are those of its four experts. -/
theorem ws_at (h : Holds m x i W) (c : Dev nD) (j : Fin 4) (d : Fin 256) (f : Fin 512) :
    (ws m ρ c : FVec Ideal S4x256x512 .bf16) (ix3 j d f) = W (ix3 (expertOf c j) d f) := by
  rw [ws_eq]; exact h.weights c j d f

/-- The message that `c` receives in slot `k` is the sender's share of the rows of `c`'s block, -/
theorem msg_at (h : Holds m x i W) (c : Dev nD) (k : Fin 3) (r : Fin 128) (f : Fin 512) :
    msg m ρ k (orig k c) (ix3 0 r f) = share x i W (orig k c) (tokenOf c r) f := by
  rw [← product_at (orig k c) x i W (tokenOf c r) f (ws m ρ (orig k c)) (fun j d => ws_at ρ h _ j d f) (sentRows m ρ k (orig k c)) r
    fun l => by rw [sentRows_at, xcat_eq ρ h]]
  unfold msg
  pointwise [k0_pay14]

/-- and its own part is its share of them. -/
theorem own_at (h : Holds m x i W) (c : Dev nD) (r : Fin 128) (f : Fin 512) :
    own m ρ c (ix2 r f) = share x i W c (tokenOf c r) f := by
  rw [← product_at c x i W (tokenOf c r) f (ws m ρ c) (fun j d => ws_at ρ h c j d f) (ownRows m ρ c) r fun l => by rw [ownRows_at, xcat_eq ρ h]]
  unfold own
  pointwise [k0_pay16]

/-- Device `c`'s result holds the rows of the tokens of its block. -/
theorem out_at (h : Holds m x i W) (c : Dev nD) (r : Fin 128) (f : Fin 512) :
    (out m ρ c : FVec Ideal S128x512 .f32) (ix2 r f) = moe x i W (tokenOf c r) f := by
  rw [← shares_sum x i W (tokenOf c r) f c, ← own_at ρ h, ← msg_at ρ h, ← msg_at ρ h, ← msg_at ρ h]
  unfold out
  pointwise [k0_pay1]

end Cert.MoE

end
-- ==== Proof.RefValue.lean ====
/-
What the reference computes: for every token its rank among the tokens with its choice, the product with its chosen
expert's weights, and zero where the rank or the choice is out of range.
-/
module

public import proofs.«01_k».proof.Proof.Gen.ReferenceIdeal
public import proofs.«01_k».proof.Proof.Served
public import Idealize.ShloMosaic.Lib.IndicatorCount
public import Idealize.ShloMosaic.Lib.WordArith

@[expose] public section

set_option maxRecDepth 16384

noncomputable section

namespace Cert.MoE.Ref

open Idealize.ShloMosaic Cert.ReferenceIdeal Cert.ReferenceIdeal.Gen

/-- A number per token as a column, and as a row, of one per pair of tokens. -/
def down {α : Type} (v : S512.Idx → α) : S512x512.Idx → α :=
  broadcastInDim S512x512 ![0, 1] bcast_S512x1_S512x512_0_1 (broadcastInDim S512x1 ![0] bcast_S512_S512x1_0 v)
def across {α : Type} (v : S512.Idx → α) : S512x512.Idx → α :=
  broadcastInDim S512x512 ![0, 1] bcast_S1x512_S512x512_0_1 (broadcastInDim S1x512 ![1] bcast_S512_S1x512_1 v)

/-- The choices as a vector. -/
def choices (i : Choice) : IVec S512 32 := shapeCast S512 i shapeCasts_S512x1_S512

/-- How many earlier tokens made each token's choice. -/
def rank (i : Choice) : IVec S512 32 :=
  Host.reduce IntOp.addi (extui 32 (andi (cmpi .eq (down (choices i)) (across (choices i)))
    (cmpi .slt (across (iotaInDim S512 32 0)) (down (iotaInDim S512 32 0)))) natLt_1_32) (constantI S_ 32 0#32) reducesTo_S512x512_S512_d1 h_S_

/-- A number in every place of a vector. -/
def all (w : BitVec 32) : IVec S512 32 := broadcastInDim S512 ![] bcast_S_S512 (constantI S_ 32 w)

/-- Which tokens are kept. -/
def kept (i : Choice) : IVec S512 1 :=
  andi (andi (cmpi .sge (choices i) (all 0#32)) (cmpi .slt (choices i) (all 16#32))) (cmpi .slt (rank i) (all 25#32))

/-- Each token's chosen weights, -/
def chosen (i : Choice) (W : Weights) : FVec Ideal S512x256x512 .bf16 :=
  Host.gather gather_S16x256x512_S512x1_S512x256x512_12_0_n_n_0_1_1256512 W (broadcastInDim S512x1 ![0] bcast_S512_S512x1_0 (choices i))

/-- and its product with them. -/
def rows (x : Tokens) (i : Choice) (W : Weights) : FVec Ideal S512x512 .f32 :=
  Host.dotGeneral dot_S512x256_S512x256x512_S512x512_1_1_n_2_0_0 none (extf .f32 x bitsLt_bf16_f32) (extf .f32 (chosen i W) bitsLt_bf16_f32)

/-- The reference's result. -/
def result (x : Tokens) (i : Choice) (W : Weights) : FVec Ideal S512x512 .f32 :=
  select (down (kept i)) (rows x i W) (broadcastInDim S512x512 ![] bcast_S_S512x512 (id (constant (F := Ideal) S_ .f32 0x00000000#32)))

/-- The rank of a token counts the tokens before it with its choice. -/
theorem rank_at (i : Choice) (t : Fin 512) : rank i (ix1 t) = BitVec.ofNat 32 (earlier i t) := by
  pointwise [rank, down, across, choices]
  rw [IndicatorCount.fold_addi_setWidth_eq_card]
  congr 2
  ext s
  simp only [Finset.mem_filter, Finset.mem_univ, true_and]
  rw [WordCmp.cmpi_eq_eq, WordCmp.cmpi_slt_ofNat (by have := s.isLt; omega) (by have := t.isLt; omega)]
  by_cases h1 : i (ix2 t 0) = i (ix2 s 0)
  · by_cases h2 : s.val < t.val
    · simp [h1, h2, IntOp.andi, Fin.lt_def]
    · simp [h1, h2, IntOp.andi, Fin.lt_def]
  · simp [h1, IntOp.andi, Ne.symm h1]

/-- At most 512 tokens. -/
theorem earlier_le (i : Choice) (t : Fin 512) : earlier i t ≤ 512 :=
  (Finset.card_le_univ _).trans (by simp)

/-- An expert's word is in range, and read as a number it is the expert's. -/
theorem word_range : ∀ e : Fin 16, (0#32).toInt ≤ (BitVec.ofNat 32 e.val).toInt ∧ (BitVec.ofNat 32 e.val).toInt < (16#32).toInt := by decide
theorem word_value : ∀ e : Fin 16, (BitVec.ofNat 32 e.val).toInt.toNat = e.val := by decide

/-- A token is kept where some expert serves it. -/
theorem kept_at (i : Choice) (t : Fin 512) : kept i (ix1 t) = 1#1 ↔ ∃ e, Served i t e := by
  have hr := rank_at i t
  have he := earlier_le i t
  pointwise [kept, choices, all]
  rw [hr, WordCmp.cmpi_slt_ofNat (by omega) (by omega)]
  generalize hw : i (ix2 t 0) = w
  have hb : ∀ a b : BitVec 1, IntOp.andi a b = 1#1 ↔ a = 1#1 ∧ b = 1#1 := by decide
  have hd : ∀ p : Bool, BitVec.ofBool p = 1#1 ↔ p = true := by decide
  rw [hb, hb, WordCmp.cmpi_sge_eq, WordCmp.cmpi_slt_eq, hd, hd, hd, decide_eq_true_eq, decide_eq_true_eq, decide_eq_true_eq]
  constructor
  · rintro ⟨⟨h1, h2⟩, h3⟩
    have h4 := WordArith.toNat_lt_of_zero_sle_of_slt_ofNat w 16 (by norm_num) (by simpa [BitVec.sle_eq_decide] using h1)
      (by simpa [BitVec.slt_eq_decide] using h2)
    exact ⟨⟨w.toNat, h4⟩, by rw [hw]; simp, h3⟩
  · rintro ⟨e, h1, h2⟩
    rw [hw] at h1
    refine ⟨?_, h2⟩
    subst h1
    exact word_range e

/-- The three axes. -/
theorem three : ∀ a : Fin 3, a = 0 ∨ a = 1 ∨ a = 2 := by decide

/-- Which axes of the weights the choice addresses (the first), and which a token's chosen weights keep (the others). -/
theorem axes :
    (0 ∉ gather_S16x256x512_S512x1_S512x256x512_12_0_n_n_0_1_1256512.sKept ∧ 1 ∈ gather_S16x256x512_S512x1_S512x256x512_12_0_n_n_0_1_1256512.sKept
      ∧ 2 ∈ gather_S16x256x512_S512x1_S512x256x512_12_0_n_n_0_1_1256512.sKept)
    ∧ 0 ∈ gather_S16x256x512_S512x1_S512x256x512_12_0_n_n_0_1_1256512.startIndexMap ∧ 1 ∉ gather_S16x256x512_S512x1_S512x256x512_12_0_n_n_0_1_1256512.startIndexMap
    ∧ 2 ∉ gather_S16x256x512_S512x1_S512x256x512_12_0_n_n_0_1_1256512.startIndexMap := by decide

/-- Where a token chose expert `e`, its chosen weights are `e`'s. -/
theorem chosen_at {i : Choice} {t : Fin 512} {e : Fin 16} (h : i (ix2 t 0) = BitVec.ofNat 32 e.val) (W : Weights) (d : Fin 256) (f : Fin 512) :
    chosen i W (ix3 t d f) = W (ix3 e d f) := by
  have hv : ∀ a, broadcastInDim S512x1 ![0] bcast_S512_S512x1_0 (choices i) (ix2 t a) = BitVec.ofNat 32 e.val := by
    intro a
    pointwise [choices]
    exact h
  refine congrArg W (funext fun a => Fin.ext ?_)
  show GatherDims.start _ (ix3 t d f) _ a + GatherDims.batchCoord _ (ix3 t d f) a + GatherDims.offCoord _ (ix3 t d f) a = _
  rw [GatherDims.batchCoord_eq_zero _ _ _ List.not_mem_nil, Nat.add_zero]
  obtain ⟨⟨k0, k1, k2⟩, m0, m1, m2⟩ := axes
  have ha : a = (0 : Fin 3) ∨ a = (1 : Fin 3) ∨ a = (2 : Fin 3) := three a
  rcases ha with rfl | rfl | rfl
  · have hs : ∀ b : S512x1.Idx, b = ix2 t 0 → (broadcastInDim S512x1 ![0] bcast_S512_S512x1_0 (choices i) b).toInt.toNat = e.val := by
      rintro _ rfl
      rw [hv, word_value]
    rw [GatherDims.offCoord_eq_zero _ _ _ k0, Nat.add_zero]
    unfold GatherDims.start
    rw [dif_pos m0]
    refine (congrArg (min · 15) (hs _ (funext fun b => Fin.ext ?_))).trans (min_eq_left (by have := e.isLt; omega))
    match b with
    | ⟨0, _⟩ => rfl
    | ⟨1, _⟩ => rfl
  · unfold GatherDims.start GatherDims.offCoord
    rw [dif_neg m1, dif_pos k1, Nat.zero_add]
    rfl
  · unfold GatherDims.start GatherDims.offCoord
    rw [dif_neg m2, dif_pos k2, Nat.zero_add]
    rfl

/-- The reference's result holds every token's row. -/
theorem result_at (x : Tokens) (i : Choice) (W : Weights) (t f : Fin 512) : result x i W (ix2 t f) = moe x i W t f := by
  have hk : (down (kept i)) (ix2 t f) = kept i (ix1 t) := by pointwise [down]
  have hr : rows x i W (ix2 t f) = ∑ d : Fin 256, x (ix2 t d) * chosen i W (ix3 t d f) := by pointwise [rows]
  have hz : broadcastInDim S512x512 ![] bcast_S_S512x512 (id (constant (F := Ideal) S_ .f32 0x00000000#32)) (ix2 t f) = 0 := by
    pointwise
    exact Ideal.ofBits_zero_f32
  show (if down (kept i) (ix2 t f) = 1#1 then _ else _) = _
  rw [hk, hr, hz]
  by_cases h : ∃ e, Served i t e
  · rw [if_pos ((kept_at i t).2 h)]
    obtain ⟨e, he⟩ := h
    rw [moe_served he]
    exact Finset.sum_congr rfl fun d _ => by rw [chosen_at he.1]
  · rw [if_neg (fun h' => h ((kept_at i t).1 h')), moe_dropped fun e he => h ⟨e, he⟩]

end Cert.MoE.Ref

end
-- ==== Proof.Algebraic.lean ====
/-
The kernel and the reference compute the same result: each device's block of the result is its block of the rows of the
tokens.
-/
module

public import proofs.«01_k».proof.Defs
public import proofs.«01_k».proof.Proof.Gen.ReferenceIdeal.Run
public import proofs.«01_k».proof.Proof.Shares
public import proofs.«01_k».proof.Proof.RefValue
public import Idealize.ShloMosaic.Lib.LayoutAt

@[expose] public section

set_option maxRecDepth 16384

noncomputable section

namespace Cert.MoE

open Idealize.ShloMosaic Idealize.SL.Sem Cert.KernelIdeal

/-- Where the devices' blocks tile the weights and the result. -/
theorem weights_tile : Layout.Tiles ⟨3, ![4, 256, 512]⟩ ⟨3, ![16, 256, 512]⟩ 0 4 := by decide
theorem result_tile : Layout.Tiles ⟨2, ![128, 512]⟩ ⟨2, ![512, 512]⟩ 0 4 := by decide

/-- Entry `(j, d, f)` of device `c`'s block of the weights is that of its expert `j`. -/
theorem weights_block (W : Weights) (c : Dev nD) (j : Fin 4) (d : Fin 256) (f : Fin 512) :
    Layout.block ⟨3, ![4, 256, 512]⟩ ⟨3, ![16, 256, 512]⟩ 0 4 c W weights_tile (ix3 j d f) = W (ix3 (expertOf c j) d f) := by
  refine congrArg W (funext fun b => Fin.ext ?_)
  match b with
  | ⟨0, _⟩ => show c.val * 4 + j.val = 4 * c.val + j.val; omega
  | ⟨1, _⟩ => rfl
  | ⟨2, _⟩ => rfl

/-- Row `r` of device `c`'s block of the result is token `r` of its block. -/
theorem result_block (v : FVec Ideal ⟨2, ![512, 512]⟩ .f32) (c : Dev nD) (r : Fin 128) (f : Fin 512) :
    Layout.block ⟨2, ![128, 512]⟩ ⟨2, ![512, 512]⟩ 0 4 c v result_tile (ix2 r f) = v (ix2 (tokenOf c r) f) := by
  refine congrArg v (funext fun b => Fin.ext ?_)
  match b with
  | ⟨0, _⟩ => show c.val * 128 + r.val = 128 * c.val + r.val; omega
  | ⟨1, _⟩ => rfl

/-- Each device's result is its block of the reference's. -/
theorem out_eq {m : (ℓ : Loc nD τ sig) → Buf (Elt Ideal) ℓ} (ρ : Dev nD → PrngReg) {x : Tokens} {i : Choice} {W : Weights}
    (h : Holds m x i W) (c : Dev nD) :
    out m ρ c = Layout.block ⟨2, ![128, 512]⟩ ⟨2, ![512, 512]⟩ 0 4 c (Ref.result x i W) result_tile := by
  funext y
  obtain ⟨r, f, rfl⟩ : ∃ (r : Fin 128) (f : Fin 512), y = ix2 r f := ⟨y 0, y 1, funext fun b => match b with | ⟨0, _⟩ => rfl | ⟨1, _⟩ => rfl⟩
  exact (out_at ρ h c r f).trans ((Ref.result_at x i W _ f).symm.trans (result_block _ c r f).symm)

/-- On the same inputs, the weights cut by experts among the devices, the kernel's devices end with their blocks of the
    reference's result, and both leave their inputs as they were. -/
theorem algebraic : Cert.algebraic_KernelIdeal_ReferenceIdeal := by
  intro m ρ m' ρ' _ hin
  have h : Holds m (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg2))
      (m' (((0 : Dev Cert.ReferenceIdeal.nD).tc : Thread Cert.ReferenceIdeal.nD Cert.ReferenceIdeal.τ).loc Cert.ReferenceIdeal.main_arg3)) :=
    ⟨fun c => (hin c).1, fun c => (hin c).2.2.1, fun c j d f => by rw [(hin c).2.2.2]; exact weights_block _ c j d f⟩
  refine ⟨Ref.result _ _ _, (θ_run defs _ _).mono (fun r hr c => ?_) (run_kernel (F := Ideal) m ρ),
    (θ_run Cert.ReferenceIdeal.defs _ _).mono (fun r hr => hr 0) (Cert.ReferenceIdeal.Value.run (F := Ideal) m' ρ')⟩
  exact ⟨(hr.1 c).1.trans (out_eq ρ h c), (hr.1 c).2⟩

end Cert.MoE

end
-- ==== Proof.lean ====
/-
The certificate: the claims, each from the module that proves it.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Run
public import proofs.«01_k».proof.Proof.Reference
public import proofs.«01_k».proof.Proof.Algebraic

@[expose] public section

noncomputable section

namespace Cert.Proof

open Idealize.ShloMosaic Idealize.SL.Sem

/-- Every claim of the certificate. -/
theorem claim : Cert.Claim := ⟨Cert.Kernel.Gen.facts, Cert.KernelIdeal.Gen.facts, Cert.ReferenceIdeal.Gen.facts,
  Cert.MoE.frame_kernel, Cert.MoE.frame_kernelIdeal, Cert.MoE.frame_reference, trivial, Cert.MoE.algebraic⟩

end Cert.Proof

end
